-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_points [hPre_bounded_points : Cert.Pre_bounded_points.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_points [hPre_bounded_points : Cert.Pre_bounded_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded_points [hKernelIdeal : Cert.KernelIdeal.Facts] [hPre_bounded_points : Cert.Pre_bounded_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded_points [hReferenceIdeal : Cert.ReferenceIdeal.Facts] [hPre_bounded_points : Cert.Pre_bounded_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bounded_points [hKernelIdeal : Cert.KernelIdeal.Facts] [hReferenceIdeal : Cert.ReferenceIdeal.Facts] [hPre_bounded_points : Cert.Pre_bounded_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bounded_points : Cert.Pre_bounded_points.Facts),
    quiescent_Kernel (hKernel := hKernel)
    ∧ quiescent_KernelIdeal (hKernelIdeal := hKernelIdeal)
    ∧ quiescent_KernelIdeal_pre_bounded_points (hKernelIdeal := hKernelIdeal) (hPre_bounded_points := hPre_bounded_points)
    ∧ quiescent_ReferenceIdeal (hReferenceIdeal := hReferenceIdeal)
    ∧ quiescent_ReferenceIdeal_pre_bounded_points (hReferenceIdeal := hReferenceIdeal) (hPre_bounded_points := hPre_bounded_points)
    ∧ preserves_Kernel_KernelIdeal
    ∧ algebraic_KernelIdeal_ReferenceIdeal_pre_bounded_points (hKernelIdeal := hKernelIdeal) (hReferenceIdeal := hReferenceIdeal) (hPre_bounded_points := hPre_bounded_points)
-- ==== Pre_bounded_points.lean ====
abbrev S1x1024x3 : Shape := ⟨3, ![1, 1024, 3]⟩
abbrev S64x64 : Shape := ⟨2, ![64, 64]⟩
abbrev S64 : Shape := ⟨1, ![64]⟩
abbrev S_ : Shape := ⟨0, ![]⟩

class Facts : Prop where
  bcast_S_S1x1024x3 : S_.BroadcastsInDim S1x1024x3 (![] : Fin 0 → Fin S1x1024x3.rank)

variable [Facts]

def fn {F : FTy → Type} [FloatOps F] (main_arg0 : FVec F S1x1024x3 .f32) (main_arg1 : FVec F S64x64 .f32) (main_arg2 : FVec F S64 .f32) (main_arg3 : FVec F S64x64 .f32) (main_arg4 : FVec F S64 .f32) : IVec S1x1024x3 1 :=
  let main_v0 : FVec F S1x1024x3 .f32 := Host.absf main_arg0
  let main_cst : FVec F S_ .f32 := constant S_ .f32 0x7CF0BDC2#32
  let main_v1 : FVec F S1x1024x3 .f32 := broadcastInDim S1x1024x3 ![] bcast_S_S1x1024x3 main_cst
  let main_v2 : IVec S1x1024x3 1 := cmpf .ole main_v0 main_v1
  main_v2
-- ==== Kernel.lean ====
abbrev S1x1024x3 : Shape := ⟨3, ![1, 1024, 3]⟩
abbrev S64x64 : Shape := ⟨2, ![64, 64]⟩
abbrev S64 : Shape := ⟨1, ![64]⟩
abbrev S1024x3 : Shape := ⟨2, ![1024, 3]⟩
abbrev S1x32 : Shape := ⟨2, ![1, 32]⟩
abbrev S3x1024 : Shape := ⟨2, ![3, 1024]⟩
abbrev S1024x16 : Shape := ⟨2, ![1024, 16]⟩
abbrev S32x64 : Shape := ⟨2, ![32, 64]⟩
abbrev S1x64 : Shape := ⟨2, ![1, 64]⟩
abbrev S1024x1024x64 : Shape := ⟨3, ![1024, 1024, 64]⟩
abbrev S1x1024x1024x64 : Shape := ⟨4, ![1, 1024, 1024, 64]⟩
abbrev S64x3 : Shape := ⟨2, ![64, 3]⟩
abbrev S64x16 : Shape := ⟨2, ![64, 16]⟩
abbrev S1x1024 : Shape := ⟨2, ![1, 1024]⟩
abbrev S64x1 : Shape := ⟨2, ![64, 1]⟩
abbrev S64x1024 : Shape := ⟨2, ![64, 1024]⟩
abbrev S3x128 : Shape := ⟨2, ![3, 128]⟩
abbrev S64x128x64 : Shape := ⟨3, ![64, 128, 64]⟩
abbrev S1x128 : Shape := ⟨2, ![1, 128]⟩
abbrev S64x128 : Shape := ⟨2, ![64, 128]⟩
abbrev S1x1x32 : Shape := ⟨3, ![1, 1, 32]⟩
abbrev S64x128x1 : Shape := ⟨3, ![64, 128, 1]⟩
abbrev S64x128x32 : Shape := ⟨3, ![64, 128, 32]⟩
abbrev S8192x32 : Shape := ⟨2, ![8192, 32]⟩
abbrev S8192x64 : Shape := ⟨2, ![8192, 64]⟩
abbrev S1x1x64 : Shape := ⟨3, ![1, 1, 64]⟩

abbrev nBuf : Space → Nat
  | .hbm => 21
  | .vmem => 19
  | .smem => 0
  | _ => 0

abbrev bufTy : (tb : Table) → Fin (tcTables nBuf tb) → BufTy
  | .hbm, ⟨0, _⟩ => ⟨S1x1024x3, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1024x3, .f32⟩
  | .hbm, ⟨6, _⟩ => ⟨S1x32, .f32⟩
  | .hbm, ⟨7, _⟩ => ⟨S3x1024, .f32⟩
  | .hbm, ⟨8, _⟩ => ⟨S1024x16, .f32⟩
  | .hbm, ⟨9, _⟩ => ⟨S32x64, .f32⟩
  | .hbm, ⟨10, _⟩ => ⟨S32x64, .bf16⟩
  | .hbm, ⟨11, _⟩ => ⟨S32x64, .f32⟩
  | .hbm, ⟨12, _⟩ => ⟨S32x64, .bf16⟩
  | .hbm, ⟨13, _⟩ => ⟨S32x64, .f32⟩
  | .hbm, ⟨14, _⟩ => ⟨S32x64, .bf16⟩
  | .hbm, ⟨15, _⟩ => ⟨S32x64, .f32⟩
  | .hbm, ⟨16, _⟩ => ⟨S32x64, .bf16⟩
  | .hbm, ⟨17, _⟩ => ⟨S64, .f32⟩
  | .hbm, ⟨18, _⟩ => ⟨S1x64, .f32⟩
  | .hbm, ⟨19, _⟩ => ⟨S1024x1024x64, .f32⟩
  | .hbm, ⟨20, _⟩ => ⟨S1x1024x1024x64, .f32⟩
  | .local _ .vmem, ⟨0, _⟩ => ⟨S3x1024, .f32⟩
  | .local _ .vmem, ⟨1, _⟩ => ⟨S64x3, .f32⟩
  | .local _ .vmem, ⟨2, _⟩ => ⟨S64x3, .f32⟩
  | .local _ .vmem, ⟨3, _⟩ => ⟨S64x16, .f32⟩
  | .local _ .vmem, ⟨4, _⟩ => ⟨S64x16, .f32⟩
  | .local _ .vmem, ⟨5, _⟩ => ⟨S3x128, .f32⟩
  | .local _ .vmem, ⟨6, _⟩ => ⟨S3x128, .f32⟩
  | .local _ .vmem, ⟨7, _⟩ => ⟨S64x3, .f32⟩
  | .local _ .vmem, ⟨8, _⟩ => ⟨S64x3, .f32⟩
  | .local _ .vmem, ⟨9, _⟩ => ⟨S64x16, .f32⟩
  | .local _ .vmem, ⟨10, _⟩ => ⟨S64x16, .f32⟩
  | .local _ .vmem, ⟨11, _⟩ => ⟨S1x32, .f32⟩
  | .local _ .vmem, ⟨12, _⟩ => ⟨S32x64, .bf16⟩
  | .local _ .vmem, ⟨13, _⟩ => ⟨S32x64, .bf16⟩
  | .local _ .vmem, ⟨14, _⟩ => ⟨S32x64, .bf16⟩
  | .local _ .vmem, ⟨15, _⟩ => ⟨S32x64, .bf16⟩
  | .local _ .vmem, ⟨16, _⟩ => ⟨S1x64, .f32⟩
  | .local _ .vmem, ⟨17, _⟩ => ⟨S64x128x64, .f32⟩
  | .local _ .vmem, ⟨18, _⟩ => ⟨S64x128x64, .f32⟩
  | _, _ => ⟨S1x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_v1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S3x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S64x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S1x1024x3 : Shape := ⟨3, ![1, 1024, 3]⟩
abbrev S64x64 : Shape := ⟨2, ![64, 64]⟩
abbrev S64 : Shape := ⟨1, ![64]⟩
abbrev S32 : Shape := ⟨1, ![32]⟩
abbrev S_ : Shape := ⟨0, ![]⟩
abbrev S1x1024 : Shape := ⟨2, ![1, 1024]⟩
abbrev S1x1024x1 : Shape := ⟨3, ![1, 1024, 1]⟩
abbrev S1x1024x1024 : Shape := ⟨3, ![1, 1024, 1024]⟩
abbrev S1x1x1024 : Shape := ⟨3, ![1, 1, 1024]⟩
abbrev S1x1024x4 : Shape := ⟨3, ![1, 1024, 4]⟩
abbrev S1024x3 : Shape := ⟨2, ![1024, 3]⟩
abbrev S1024x3x1 : Shape := ⟨3, ![1024, 3, 1]⟩
abbrev S1024x3x3 : Shape := ⟨3, ![1024, 3, 3]⟩
abbrev S1x1024x3x3 : Shape := ⟨4, ![1, 1024, 3, 3]⟩
abbrev S1x1024x1x3 : Shape := ⟨4, ![1, 1024, 1, 3]⟩
abbrev S1x1x1024x3 : Shape := ⟨4, ![1, 1, 1024, 3]⟩
abbrev S1x1024x1024x3 : Shape := ⟨4, ![1, 1024, 1024, 3]⟩
abbrev S1x1024x1x3x3 : Shape := ⟨5, ![1, 1024, 1, 3, 3]⟩
abbrev S1x1024x1024x3x3 : Shape := ⟨5, ![1, 1024, 1024, 3, 3]⟩
abbrev S1x1024x1024x1x3 : Shape := ⟨5, ![1, 1024, 1024, 1, 3]⟩
abbrev S1x1024x1024x3x1 : Shape := ⟨5, ![1, 1024, 1024, 3, 1]⟩
abbrev S1x1024x1024x1 : Shape := ⟨4, ![1, 1024, 1024, 1]⟩
abbrev S1x1x1x32 : Shape := ⟨4, ![1, 1, 1, 32]⟩
abbrev S1x1024x1024x32 : Shape := ⟨4, ![1, 1024, 1024, 32]⟩
abbrev S1x1024x1024x64 : Shape := ⟨4, ![1, 1024, 1024, 64]⟩
abbrev S1x1x1x64 : Shape := ⟨4, ![1, 1, 1, 64]⟩
abbrev S1x1x1x1x32 : Shape := ⟨5, ![1, 1, 1, 1, 32]⟩
abbrev S1x1024x1024x3x32 : Shape := ⟨5, ![1, 1024, 1024, 3, 32]⟩
abbrev S1x1024x1024x3x64 : Shape := ⟨5, ![1, 1024, 1024, 3, 64]⟩
abbrev S1x1x1x1x64 : Shape := ⟨5, ![1, 1, 1, 1, 64]⟩

abbrev nBuf : Space → Nat
  | .hbm => 278
  | .vmem => 0
  | .smem => 0
  | _ => 0

abbrev hbmTy0_0 (i : Nat) : BufTy := match i % 128 with
  | 0 => ⟨S1x1024x3, .f32⟩
  | 1 => ⟨S64x64, .f32⟩
  | 2 => ⟨S64, .f32⟩
  | 3 => ⟨S64x64, .f32⟩
  | 4 => ⟨S64, .f32⟩
  | 5 => ⟨S32, .f32⟩
  | 6 => ⟨S1x1024x3, .f32⟩
  | 7 => ⟨S_, .f32⟩
  | 8 => ⟨S1x1024, .f32⟩
  | 9 => ⟨S1x1024x1, .f32⟩
  | 10 => ⟨S1x1024x3, .f32⟩
  | 11 => ⟨S_, .f32⟩
  | 12 => ⟨S1x1024, .f32⟩
  | 13 => ⟨S1x1024x1, .f32⟩
  | 14 => ⟨S1x1024x1024, .f32⟩
  | 15 => ⟨S_, .f32⟩
  | 16 => ⟨S1x1024x1024, .f32⟩
  | 17 => ⟨S1x1024x1024, .f32⟩
  | 18 => ⟨S1x1024x1024, .f32⟩
  | 19 => ⟨S1x1024x1024, .f32⟩
  | 20 => ⟨S1x1x1024, .f32⟩
  | 21 => ⟨S1x1024x1024, .f32⟩
  | 22 => ⟨S1x1024x1024, .f32⟩
  | 23 => ⟨S_, .f32⟩
  | 24 => ⟨S1x1024x1024, .f32⟩
  | 25 => ⟨S1x1024x1024, .f32⟩
  | 26 => ⟨S1x1024x1024, .f32⟩
  | 27 => ⟨S_, .f32⟩
  | 28 => ⟨S1x1024x1024, .f32⟩
  | 29 => ⟨S1x1024x1024, .f32⟩
  | 30 => ⟨S1x1024x1024, .f32⟩
  | 31 => ⟨S1x1024x4, .f32⟩
  | 32 => ⟨S1x1024x4, .i32⟩
  | 33 => ⟨S1x1024x3, .i32⟩
  | 34 => ⟨S1024x3, .f32⟩
  | 35 => ⟨S1024x3, .i32⟩
  | 36 => ⟨S1024x3x1, .i32⟩
  | 37 => ⟨S1024x3x3, .f32⟩
  | 38 => ⟨S1x1024x3x3, .f32⟩
  | 39 => ⟨S1x1024x1x3, .f32⟩
  | 40 => ⟨S1x1024x3x3, .f32⟩
  | 41 => ⟨S1x1024x3x3, .f32⟩
  | 42 => ⟨S1x1x1024x3, .f32⟩
  | 43 => ⟨S1x1024x1x3, .f32⟩
  | 44 => ⟨S1x1024x1024x3, .f32⟩
  | 45 => ⟨S1x1024x1024x3, .f32⟩
  | 46 => ⟨S1x1024x1024x3, .f32⟩
  | 47 => ⟨S1x1024x1x3x3, .f32⟩
  | 48 => ⟨S1x1024x1024x3x3, .f32⟩
  | 49 => ⟨S1x1024x1024x1x3, .f32⟩
  | 50 => ⟨S1x1024x1024x3x3, .f32⟩
  | 51 => ⟨S1x1024x1024x3x1, .f32⟩
  | 52 => ⟨S1x1024x1024x3, .f32⟩
  | 53 => ⟨S1x1024x1024x3x1, .f32⟩
  | 54 => ⟨S1x1024x1024x3, .f32⟩
  | 55 => ⟨S1x1024x1024x3x1, .f32⟩
  | 56 => ⟨S1x1024x1024x3, .f32⟩
  | 57 => ⟨S1x1024x1024x3x1, .f32⟩
  | 58 => ⟨S1x1024x1024x3, .f32⟩
  | 59 => ⟨S1x1024x1024x3x1, .f32⟩
  | 60 => ⟨S1x1024x1024x3, .f32⟩
  | 61 => ⟨S1x1024x1024x3x1, .f32⟩
  | 62 => ⟨S1x1024x1024x3, .f32⟩
  | 63 => ⟨S1x1024x1024x3, .f32⟩
  | 64 => ⟨S1x1024x1024x3, .f32⟩
  | 65 => ⟨S1x1024x1024x3, .f32⟩
  | 66 => ⟨S1x1024x1024x3, .f32⟩
  | 67 => ⟨S1x1024x1024x3, .f32⟩
  | 68 => ⟨S1x1024x1024x3, .f32⟩
  | 69 => ⟨S1x1024x1024x3, .f32⟩
  | 70 => ⟨S1x1024x1024x3, .f32⟩
  | 71 => ⟨S1x1024x1024x3, .f32⟩
  | 72 => ⟨S1x1024x1024x3x1, .f32⟩
  | 73 => ⟨S1x1024x1024x3x1, .f32⟩
  | 74 => ⟨S1x1024x1024x3x1, .f32⟩
  | 75 => ⟨S1x1024x1024x3x3, .f32⟩
  | 76 => ⟨S1x1024x1024x3x3, .f32⟩
  | 77 => ⟨S_, .f32⟩
  | 78 => ⟨S1x1024x1024x3, .f32⟩
  | 79 => ⟨S1x1024x1024x3, .f32⟩
  | 80 => ⟨S1x1024x1024x3x3, .f32⟩
  | 81 => ⟨S_, .f32⟩
  | 82 => ⟨S1x1024x1024x3, .f32⟩
  | 83 => ⟨S1x1024x1024x3, .f32⟩
  | 84 => ⟨S_, .f32⟩
  | 85 => ⟨S1x1024x1024x3, .f32⟩
  | 86 => ⟨S1x1024x1024x3, .f32⟩
  | 87 => ⟨S1x1024x1024x1, .f32⟩
  | 88 => ⟨S1x1x1x32, .f32⟩
  | 89 => ⟨S1x1024x1024x32, .f32⟩
  | 90 => ⟨S1x1024x1024x32, .f32⟩
  | 91 => ⟨S1x1024x1024x32, .f32⟩
  | 92 => ⟨S_, .f32⟩
  | 93 => ⟨S1x1024x1024x32, .f32⟩
  | 94 => ⟨S1x1024x1024x32, .f32⟩
  | 95 => ⟨S_, .f32⟩
  | 96 => ⟨S1x1024x1024x32, .f32⟩
  | 97 => ⟨S1x1024x1024x32, .f32⟩
  | 98 => ⟨S1x1024x1024x32, .f32⟩
  | 99 => ⟨S1x1024x1024x32, .f32⟩
  | 100 => ⟨S_, .f32⟩
  | 101 => ⟨S1x1024x1024x32, .f32⟩
  | 102 => ⟨S1x1024x1024x32, .f32⟩
  | 103 => ⟨S_, .f32⟩
  | 104 => ⟨S1x1024x1024x32, .f32⟩
  | 105 => ⟨S1x1024x1024x32, .f32⟩
  | 106 => ⟨S1x1024x1024x32, .f32⟩
  | 107 => ⟨S1x1024x1024x32, .f32⟩
  | 108 => ⟨S_, .f32⟩
  | 109 => ⟨S1x1024x1024x32, .f32⟩
  | 110 => ⟨S1x1024x1024x32, .f32⟩
  | 111 => ⟨S1x1024x1024x32, .f32⟩
  | 112 => ⟨S1x1024x1024x32, .f32⟩
  | 113 => ⟨S1x1024x1024x32, .f32⟩
  | 114 => ⟨S1x1024x1024x32, .f32⟩
  | 115 => ⟨S_, .f32⟩
  | 116 => ⟨S1x1024x1024x32, .f32⟩
  | 117 => ⟨S1x1024x1024x32, .f32⟩
  | 118 => ⟨S1x1024x1024x32, .f32⟩
  | 119 => ⟨S1x1024x1024x32, .f32⟩
  | 120 => ⟨S1x1024x1024x32, .f32⟩
  | 121 => ⟨S1x1024x1024x32, .f32⟩
  | 122 => ⟨S1x1024x1024x32, .f32⟩
  | 123 => ⟨S_, .f32⟩
  | 124 => ⟨S1x1024x1024x32, .f32⟩
  | 125 => ⟨S1x1024x1024x32, .f32⟩
  | 126 => ⟨S1x1024x1024x32, .f32⟩
  | 127 => ⟨S1x1024x1024x32, .f32⟩
  | _ => ⟨S1x1024x3, .f32⟩

abbrev hbmTy0_1 (i : Nat) : BufTy := match i % 128 with
  | 0 => ⟨S1x1024x1024x32, .f32⟩
  | 1 => ⟨S1x1024x1024x32, .f32⟩
  | 2 => ⟨S1x1024x1024x32, .f32⟩
  | 3 => ⟨S_, .f32⟩
  | 4 => ⟨S1x1024x1024x32, .f32⟩
  | 5 => ⟨S1x1024x1024x32, .f32⟩
  | 6 => ⟨S1x1024x1024x32, .f32⟩
  | 7 => ⟨S_, .f32⟩
  | 8 => ⟨S1x1024x1024x32, .f32⟩
  | 9 => ⟨S_, .f32⟩
  | 10 => ⟨S1x1024x1024x32, .f32⟩
  | 11 => ⟨S1x1024x1024x32, .f32⟩
  | 12 => ⟨S_, .f32⟩
  | 13 => ⟨S1x1024x1024x32, .f32⟩
  | 14 => ⟨S1x1024x1024x32, .f32⟩
  | 15 => ⟨S1x1024x1024x32, .f32⟩
  | 16 => ⟨S_, .f32⟩
  | 17 => ⟨S1x1024x1024x32, .f32⟩
  | 18 => ⟨S1x1024x1024x32, .f32⟩
  | 19 => ⟨S1x1024x1024x32, .f32⟩
  | 20 => ⟨S1x1024x1024x32, .f32⟩
  | 21 => ⟨S1x1024x1024x32, .f32⟩
  | 22 => ⟨S_, .f32⟩
  | 23 => ⟨S1x1024x1024x32, .f32⟩
  | 24 => ⟨S1x1024x1024x32, .f32⟩
  | 25 => ⟨S1x1024x1024x32, .f32⟩
  | 26 => ⟨S1x1024x1024x32, .f32⟩
  | 27 => ⟨S1x1024x1024x32, .f32⟩
  | 28 => ⟨S1x1024x1024x32, .f32⟩
  | 29 => ⟨S_, .f32⟩
  | 30 => ⟨S1x1024x1024x32, .f32⟩
  | 31 => ⟨S1x1024x1024x32, .f32⟩
  | 32 => ⟨S1x1024x1024x32, .f32⟩
  | 33 => ⟨S1x1024x1024x32, .f32⟩
  | 34 => ⟨S1x1024x1024x32, .f32⟩
  | 35 => ⟨S1x1024x1024x32, .f32⟩
  | 36 => ⟨S_, .f32⟩
  | 37 => ⟨S1x1024x1024x32, .f32⟩
  | 38 => ⟨S1x1024x1024x32, .f32⟩
  | 39 => ⟨S1x1024x1024x32, .f32⟩
  | 40 => ⟨S1x1024x1024x32, .f32⟩
  | 41 => ⟨S1x1024x1024x32, .f32⟩
  | 42 => ⟨S1x1024x1024x32, .f32⟩
  | 43 => ⟨S1x1024x1024x32, .f32⟩
  | 44 => ⟨S_, .f32⟩
  | 45 => ⟨S1x1024x1024x32, .f32⟩
  | 46 => ⟨S1x1024x1024x32, .f32⟩
  | 47 => ⟨S1x1024x1024x32, .f32⟩
  | 48 => ⟨S1x1024x1024x64, .f32⟩
  | 49 => ⟨S1x1024x1024x64, .f32⟩
  | 50 => ⟨S1x1x1x64, .f32⟩
  | 51 => ⟨S1x1024x1024x64, .f32⟩
  | 52 => ⟨S1x1024x1024x64, .f32⟩
  | 53 => ⟨S1x1024x1024x3x1, .f32⟩
  | 54 => ⟨S1x1x1x1x32, .f32⟩
  | 55 => ⟨S1x1024x1024x3x32, .f32⟩
  | 56 => ⟨S1x1024x1024x3x32, .f32⟩
  | 57 => ⟨S1x1024x1024x3x32, .f32⟩
  | 58 => ⟨S_, .f32⟩
  | 59 => ⟨S1x1024x1024x3x32, .f32⟩
  | 60 => ⟨S1x1024x1024x3x32, .f32⟩
  | 61 => ⟨S_, .f32⟩
  | 62 => ⟨S1x1024x1024x3x32, .f32⟩
  | 63 => ⟨S1x1024x1024x3x32, .f32⟩
  | 64 => ⟨S1x1024x1024x3x32, .f32⟩
  | 65 => ⟨S1x1024x1024x3x32, .f32⟩
  | 66 => ⟨S_, .f32⟩
  | 67 => ⟨S1x1024x1024x3x32, .f32⟩
  | 68 => ⟨S1x1024x1024x3x32, .f32⟩
  | 69 => ⟨S_, .f32⟩
  | 70 => ⟨S1x1024x1024x3x32, .f32⟩
  | 71 => ⟨S1x1024x1024x3x32, .f32⟩
  | 72 => ⟨S1x1024x1024x3x32, .f32⟩
  | 73 => ⟨S1x1024x1024x3x32, .f32⟩
  | 74 => ⟨S_, .f32⟩
  | 75 => ⟨S1x1024x1024x3x32, .f32⟩
  | 76 => ⟨S1x1024x1024x3x32, .f32⟩
  | 77 => ⟨S1x1024x1024x3x32, .f32⟩
  | 78 => ⟨S1x1024x1024x3x32, .f32⟩
  | 79 => ⟨S1x1024x1024x3x32, .f32⟩
  | 80 => ⟨S1x1024x1024x3x32, .f32⟩
  | 81 => ⟨S_, .f32⟩
  | 82 => ⟨S1x1024x1024x3x32, .f32⟩
  | 83 => ⟨S1x1024x1024x3x32, .f32⟩
  | 84 => ⟨S1x1024x1024x3x32, .f32⟩
  | 85 => ⟨S1x1024x1024x3x32, .f32⟩
  | 86 => ⟨S1x1024x1024x3x32, .f32⟩
  | 87 => ⟨S1x1024x1024x3x32, .f32⟩
  | 88 => ⟨S1x1024x1024x3x32, .f32⟩
  | 89 => ⟨S_, .f32⟩
  | 90 => ⟨S1x1024x1024x3x32, .f32⟩
  | 91 => ⟨S1x1024x1024x3x32, .f32⟩
  | 92 => ⟨S1x1024x1024x3x32, .f32⟩
  | 93 => ⟨S1x1024x1024x3x32, .f32⟩
  | 94 => ⟨S1x1024x1024x3x32, .f32⟩
  | 95 => ⟨S1x1024x1024x3x32, .f32⟩
  | 96 => ⟨S1x1024x1024x3x32, .f32⟩
  | 97 => ⟨S_, .f32⟩
  | 98 => ⟨S1x1024x1024x3x32, .f32⟩
  | 99 => ⟨S1x1024x1024x3x32, .f32⟩
  | 100 => ⟨S1x1024x1024x3x32, .f32⟩
  | 101 => ⟨S_, .f32⟩
  | 102 => ⟨S1x1024x1024x3x32, .f32⟩
  | 103 => ⟨S_, .f32⟩
  | 104 => ⟨S1x1024x1024x3x32, .f32⟩
  | 105 => ⟨S1x1024x1024x3x32, .f32⟩
  | 106 => ⟨S_, .f32⟩
  | 107 => ⟨S1x1024x1024x3x32, .f32⟩
  | 108 => ⟨S1x1024x1024x3x32, .f32⟩
  | 109 => ⟨S1x1024x1024x3x32, .f32⟩
  | 110 => ⟨S_, .f32⟩
  | 111 => ⟨S1x1024x1024x3x32, .f32⟩
  | 112 => ⟨S1x1024x1024x3x32, .f32⟩
  | 113 => ⟨S1x1024x1024x3x32, .f32⟩
  | 114 => ⟨S1x1024x1024x3x32, .f32⟩
  | 115 => ⟨S1x1024x1024x3x32, .f32⟩
  | 116 => ⟨S_, .f32⟩
  | 117 => ⟨S1x1024x1024x3x32, .f32⟩
  | 118 => ⟨S1x1024x1024x3x32, .f32⟩
  | 119 => ⟨S1x1024x1024x3x32, .f32⟩
  | 120 => ⟨S1x1024x1024x3x32, .f32⟩
  | 121 => ⟨S1x1024x1024x3x32, .f32⟩
  | 122 => ⟨S1x1024x1024x3x32, .f32⟩
  | 123 => ⟨S_, .f32⟩
  | 124 => ⟨S1x1024x1024x3x32, .f32⟩
  | 125 => ⟨S1x1024x1024x3x32, .f32⟩
  | 126 => ⟨S1x1024x1024x3x32, .f32⟩
  | 127 => ⟨S1x1024x1024x3x32, .f32⟩
  | _ => ⟨S1x1024x3, .f32⟩

abbrev hbmTy0_2 (i : Nat) : BufTy := match i % 128 with
  | 0 => ⟨S1x1024x1024x3x32, .f32⟩
  | 1 => ⟨S1x1024x1024x3x32, .f32⟩
  | 2 => ⟨S_, .f32⟩
  | 3 => ⟨S1x1024x1024x3x32, .f32⟩
  | 4 => ⟨S1x1024x1024x3x32, .f32⟩
  | 5 => ⟨S1x1024x1024x3x32, .f32⟩
  | 6 => ⟨S1x1024x1024x3x32, .f32⟩
  | 7 => ⟨S1x1024x1024x3x32, .f32⟩
  | 8 => ⟨S1x1024x1024x3x32, .f32⟩
  | 9 => ⟨S1x1024x1024x3x32, .f32⟩
  | 10 => ⟨S_, .f32⟩
  | 11 => ⟨S1x1024x1024x3x32, .f32⟩
  | 12 => ⟨S1x1024x1024x3x32, .f32⟩
  | 13 => ⟨S1x1024x1024x3x32, .f32⟩
  | 14 => ⟨S1x1024x1024x3x64, .f32⟩
  | 15 => ⟨S1x1024x1024x3x64, .f32⟩
  | 16 => ⟨S1x1x1x1x64, .f32⟩
  | 17 => ⟨S1x1024x1024x3x64, .f32⟩
  | 18 => ⟨S1x1024x1024x3x64, .f32⟩
  | 19 => ⟨S_, .f32⟩
  | 20 => ⟨S1x1024x1024x64, .f32⟩
  | 21 => ⟨S1x1024x1024x64, .f32⟩
  | _ => ⟨S1x1024x3, .f32⟩

abbrev hbmTy (i : Nat) : BufTy := match i / 128 with
  | 0 => hbmTy0_0 i
  | 1 => hbmTy0_1 i
  | 2 => hbmTy0_2 i
  | _ => ⟨S1x1024x3, .f32⟩

abbrev bufTy : (tb : Table) → Fin (tcTables nBuf tb) → BufTy
  | .hbm, ⟨i, _⟩ => hbmTy i
  | _, _ => ⟨S1x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_values : Ref sig .tc := ⟨.hbm, 31, rfl⟩
abbrev main_indices : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_13 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_14 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_15 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_16 : Ref sig .tc := ⟨.hbm, 135, rfl⟩
abbrev main_v110 : Ref sig .tc := ⟨.hbm, 136, rfl⟩
abbrev main_cst_17 : Ref sig .tc := ⟨.hbm, 137, rfl⟩
abbrev main_v111 : Ref sig .tc := ⟨.hbm, 138, rfl⟩
abbrev main_v112 : Ref sig .tc := ⟨.hbm, 139, rfl⟩
abbrev main_cst_18 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_19 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_20 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_21 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_22 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_23 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_24 : Ref sig .tc := ⟨.hbm, 186, rfl⟩
abbrev main_v153 : Ref sig .tc := ⟨.hbm, 187, rfl⟩
abbrev main_v154 : Ref sig .tc := ⟨.hbm, 188, rfl⟩
abbrev main_cst_25 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_26 : Ref sig .tc := ⟨.hbm, 194, rfl⟩
abbrev main_v159 : Ref sig .tc := ⟨.hbm, 195, rfl⟩
abbrev main_v160 : Ref sig .tc := ⟨.hbm, 196, rfl⟩
abbrev main_cst_27 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_28 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_29 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_30 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_31 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_32 : Ref sig .tc := ⟨.hbm, 229, rfl⟩
abbrev main_v188 : Ref sig .tc := ⟨.hbm, 230, rfl⟩
abbrev main_cst_33 : Ref sig .tc := ⟨.hbm, 231, rfl⟩
abbrev main_v189 : Ref sig .tc := ⟨.hbm, 232, rfl⟩
abbrev main_v190 : Ref sig .tc := ⟨.hbm, 233, rfl⟩
abbrev main_cst_34 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_35 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_36 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_37 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_cst_38 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_cst_39 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_cst_40 : Ref sig .tc := ⟨.hbm, 275, rfl⟩
abbrev main_v226 : Ref sig .tc := ⟨.hbm, 276, rfl⟩
abbrev main_v227 : Ref sig .tc := ⟨.hbm, 277, rfl⟩

abbrev nD : Nat := 1
abbrev τ : Topo := Topo.v7x

variable {F : FTy → Type} [FloatOps F]
-- ==== Proof.KnnBody.lean ====
/-
  The body of the neighbour kernel, run once. From its three staging buffers it returns the two inputs as they were and
  nine columns of the output at what its text computes; the other seven columns keep whatever they held.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Tactic

@[expose] public section

noncomputable section

namespace Cert.Proof.Emb

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof: one copy of the pipeline library's per call, beside the transfers' counters. -/
abbrev UU : Type := IProdConst (Fin 2) (UR sig nD τ) × Counters

local notation "𝕄" => MT nD τ sig Unit (Elt F) ℕ UU ℕ

/-! ## What the body stores, as functions of its two inputs -/

/-- The whole rectangles the inputs are loaded through. -/
abbrev rPts : Rect S3x1024 := Rect.unit (s := S3x1024) ![0, 0] S3x1024.size inb_S3x1024_S3x1024_0_0
abbrev rRow : Rect S64x3 := Rect.unit (s := S64x3) ![0, 0] S64x3.size inb_S64x3_S64x3_0_0
/-- The nine columns. -/
abbrev rC0 : Rect S64x16 := Rect.unit (s := S64x16) ![0, 0] S64x1.size inb_S64x16_S64x1_0_0
abbrev rC1 : Rect S64x16 := Rect.unit (s := S64x16) ![0, 1] S64x1.size inb_S64x16_S64x1_0_1
abbrev rC2 : Rect S64x16 := Rect.unit (s := S64x16) ![0, 2] S64x1.size inb_S64x16_S64x1_0_2
abbrev rC3 : Rect S64x16 := Rect.unit (s := S64x16) ![0, 3] S64x1.size inb_S64x16_S64x1_0_3
abbrev rC4 : Rect S64x16 := Rect.unit (s := S64x16) ![0, 4] S64x1.size inb_S64x16_S64x1_0_4
abbrev rC5 : Rect S64x16 := Rect.unit (s := S64x16) ![0, 5] S64x1.size inb_S64x16_S64x1_0_5
abbrev rC6 : Rect S64x16 := Rect.unit (s := S64x16) ![0, 6] S64x1.size inb_S64x16_S64x1_0_6
abbrev rC7 : Rect S64x16 := Rect.unit (s := S64x16) ![0, 7] S64x1.size inb_S64x16_S64x1_0_7
abbrev rC8 : Rect S64x16 := Rect.unit (s := S64x16) ![0, 8] S64x1.size inb_S64x16_S64x1_0_8

/-- The column numbers of the distance matrix. -/
abbrev colIx : IVec S64x1024 32 := iota .tc S64x1024 32 [1] iota_S64x1024_d1_w32

section Cols
variable (a : Vec F S3x1024 .f32) (b : Vec F S64x3 .f32)
/-- The distances, with the mask of the first round. -/
abbrev kDist : FVec F S64x1024 .f32 := k0_pay13 a b
abbrev kMask : IVec S64x1024 1 := k0_pay14 a b
/-- The distances and the row minima the second kept round works on. -/
abbrev kWork : FVec F S64x1024 .f32 := k0_pay22 (kDist a b) colIx (kMask a b) k0_pay15
abbrev kMin : FVec F S64 .f32 := k0_pay23 (kDist a b) colIx (kMask a b) k0_pay15
/-- Where the third kept round's minimum is attained. -/
abbrev kLast : IVec S64x1024 1 := k0_pay29 colIx (kWork a b) (kMin a b)

/-- The nine columns from the two loaded inputs. -/
abbrev kc0 : FVec F S64x1 .f32 := k0_pay19 (k0_pay7 a) (k0_pay10 b) (kDist a b) colIx (kMask a b) k0_pay15
abbrev kc1 : FVec F S64x1 .f32 := k0_pay20 (k0_pay8 a) (k0_pay11 b) (kDist a b) colIx (kMask a b) k0_pay15
abbrev kc2 : FVec F S64x1 .f32 := k0_pay21 (k0_pay9 a) (k0_pay12 b) (kDist a b) colIx (kMask a b) k0_pay15
abbrev kc3 : FVec F S64x1 .f32 := k0_pay26 (k0_pay7 a) (k0_pay10 b) colIx (kWork a b) (kMin a b)
abbrev kc4 : FVec F S64x1 .f32 := k0_pay27 (k0_pay8 a) (k0_pay11 b) colIx (kWork a b) (kMin a b)
abbrev kc5 : FVec F S64x1 .f32 := k0_pay28 (k0_pay9 a) (k0_pay12 b) colIx (kWork a b) (kMin a b)
abbrev kc6 : FVec F S64x1 .f32 := k0_pay2 (k0_pay7 a) (k0_pay10 b) colIx (kLast a b)
abbrev kc7 : FVec F S64x1 .f32 := k0_pay3 (k0_pay8 a) (k0_pay11 b) colIx (kLast a b)
abbrev kc8 : FVec F S64x1 .f32 := k0_pay4 (k0_pay9 a) (k0_pay12 b) colIx (kLast a b)
end Cols

/-- What is known of the output block after the body: its nine columns. -/
structure KnnCols (a : Vec F S3x1024 .f32) (b : Vec F S64x3 .f32) (X : Vec F S64x16 .f32) : Prop where
  c0 : View.ld X rC0 = kc0 a b
  c1 : View.ld X rC1 = kc1 a b
  c2 : View.ld X rC2 = kc2 a b
  c3 : View.ld X rC3 = kc3 a b
  c4 : View.ld X rC4 = kc4 a b
  c5 : View.ld X rC5 = kc5 a b
  c6 : View.ld X rC6 = kc6 a b
  c7 : View.ld X rC7 = kc7 a b
  c8 : View.ld X rC8 = kc8 a b

/-- A column read over later stores to other columns. -/
theorem ld_cons_other {sg : RefSig} {κ : Kind} {sp : Space} (v : View sg κ sp S64x16 .f32) (f : v.ty.Contents (Elt F)) (j j' : ℕ) (h : j ≠ j')
    (hj : ∀ x, (![0, j] : Fin 2 → ℕ) x + S64x1.size x ≤ S64x16.size x) (hj' : ∀ x, (![0, j'] : Fin 2 → ℕ) x + S64x1.size x ≤ S64x16.size x)
    (w : FVec F S64x1 .f32) (L : List (View.Piece (Elt F) S64x16 .f32)) :
    View.ld (v.read (Elt F) (v.writes (Elt F) f (⟨Rect.unit (s := S64x16) ![0, j'] S64x1.size hj', w⟩ :: L))) (Rect.unit (s := S64x16) ![0, j] S64x1.size hj)
      = View.ld (v.read (Elt F) (v.writes (Elt F) f L)) (Rect.unit (s := S64x16) ![0, j] S64x1.size hj) := by
  funext x
  refine View.read_writes_cons_miss_of_axis v f _ L _ (1 : Fin 2) j' 1 rfl rfl rfl ?_
  have e : (((Rect.unit (s := S64x16) ![0, j] S64x1.size hj).emb x) (1 : Fin 2)).val = j := by
    have h1 : (x (1 : Fin 2)).val < 1 := (x (1 : Fin 2)).isLt
    show j + 1 * (x (1 : Fin 2)).val = j
    omega
  show (((Rect.unit (s := S64x16) ![0, j] S64x1.size hj).emb x) (1 : Fin 2)).val < j' ∨ j' + 1 ≤ (((Rect.unit (s := S64x16) ![0, j] S64x1.size hj).emb x) (1 : Fin 2)).val
  rw [e]; omega

/-- A column read over its own store. -/
theorem ld_cons_self {sg : RefSig} {κ : Kind} {sp : Space} (v : View sg κ sp S64x16 .f32) (f : v.ty.Contents (Elt F)) (r : Rect S64x16)
    (w : r.shape.Idx → Elt F .f32) (L : List (View.Piece (Elt F) S64x16 .f32)) :
    View.ld (v.read (Elt F) (v.writes (Elt F) f (⟨r, w⟩ :: L))) r = w := by
  funext x
  exact View.read_writes_cons_emb v f r w L x

/-- Nine stores to the nine columns, each read back. -/
theorem ld_nine {sg : RefSig} {κ : Kind} {sp : Space} (v : View sg κ sp S64x16 .f32) (f : v.ty.Contents (Elt F)) (w0 w1 w2 w3 w4 w5 w6 w7 w8 : FVec F S64x1 .f32)
    (X : Vec F S64x16 .f32)
    (hX : X = v.read (Elt F) (v.writes (Elt F) f [⟨rC8, w8⟩, ⟨rC7, w7⟩, ⟨rC6, w6⟩, ⟨rC5, w5⟩, ⟨rC4, w4⟩, ⟨rC3, w3⟩, ⟨rC2, w2⟩, ⟨rC1, w1⟩, ⟨rC0, w0⟩])) :
    View.ld X rC0 = w0 ∧ View.ld X rC1 = w1 ∧ View.ld X rC2 = w2 ∧ View.ld X rC3 = w3 ∧ View.ld X rC4 = w4 ∧ View.ld X rC5 = w5
      ∧ View.ld X rC6 = w6 ∧ View.ld X rC7 = w7 ∧ View.ld X rC8 = w8 := by
  subst hX
  have o := @ld_cons_other F _ sg κ sp v f
  refine ⟨?_, ?_, ?_, ?_, ?_, ?_, ?_, ?_, ?_⟩
  · refine (o 0 8 (by decide) _ _ _ _).trans ?_; refine (o 0 7 (by decide) _ _ _ _).trans ?_; refine (o 0 6 (by decide) _ _ _ _).trans ?_; refine (o 0 5 (by decide) _ _ _ _).trans ?_; refine (o 0 4 (by decide) _ _ _ _).trans ?_; refine (o 0 3 (by decide) _ _ _ _).trans ?_; refine (o 0 2 (by decide) _ _ _ _).trans ?_; refine (o 0 1 (by decide) _ _ _ _).trans ?_; exact ld_cons_self v f _ _ _
  · refine (o 1 8 (by decide) _ _ _ _).trans ?_; refine (o 1 7 (by decide) _ _ _ _).trans ?_; refine (o 1 6 (by decide) _ _ _ _).trans ?_; refine (o 1 5 (by decide) _ _ _ _).trans ?_; refine (o 1 4 (by decide) _ _ _ _).trans ?_; refine (o 1 3 (by decide) _ _ _ _).trans ?_; refine (o 1 2 (by decide) _ _ _ _).trans ?_; exact ld_cons_self v f _ _ _
  · refine (o 2 8 (by decide) _ _ _ _).trans ?_; refine (o 2 7 (by decide) _ _ _ _).trans ?_; refine (o 2 6 (by decide) _ _ _ _).trans ?_; refine (o 2 5 (by decide) _ _ _ _).trans ?_; refine (o 2 4 (by decide) _ _ _ _).trans ?_; refine (o 2 3 (by decide) _ _ _ _).trans ?_; exact ld_cons_self v f _ _ _
  · refine (o 3 8 (by decide) _ _ _ _).trans ?_; refine (o 3 7 (by decide) _ _ _ _).trans ?_; refine (o 3 6 (by decide) _ _ _ _).trans ?_; refine (o 3 5 (by decide) _ _ _ _).trans ?_; refine (o 3 4 (by decide) _ _ _ _).trans ?_; exact ld_cons_self v f _ _ _
  · refine (o 4 8 (by decide) _ _ _ _).trans ?_; refine (o 4 7 (by decide) _ _ _ _).trans ?_; refine (o 4 6 (by decide) _ _ _ _).trans ?_; refine (o 4 5 (by decide) _ _ _ _).trans ?_; exact ld_cons_self v f _ _ _
  · refine (o 5 8 (by decide) _ _ _ _).trans ?_; refine (o 5 7 (by decide) _ _ _ _).trans ?_; refine (o 5 6 (by decide) _ _ _ _).trans ?_; exact ld_cons_self v f _ _ _
  · refine (o 6 8 (by decide) _ _ _ _).trans ?_; refine (o 6 7 (by decide) _ _ _ _).trans ?_; exact ld_cons_self v f _ _ _
  · refine (o 7 8 (by decide) _ _ _ _).trans ?_; exact ld_cons_self v f _ _ _
  · exact ld_cons_self v f _ _ _

/-- The body on whole staging buffers: the two inputs come back, the nine columns are as computed. -/
theorem knn_sound (c : Dev nD) (E : Set ℕ) (i : grid0.Coords) (M1 : Memref sig .tc .vmem S3x1024 .f32) (h1 : M1.IsWhole)
    (M2 : Memref sig .tc .vmem S64x3 .f32) (h2 : M2.IsWhole) (M3 : Memref sig .tc .vmem S64x16 .f32) (h3 : M3.IsWhole)
    (x1 : Vec F S3x1024 .f32) (x2 : Vec F S64x3 .f32) (K : PUnit → sProp 𝕄) :
    iprop(owns (c : Thread nD τ) M1 fullShare x1 ∗ owns (c : Thread nD τ) M2 fullShare x2 ∗ (∃ d, owns (c : Thread nD τ) M3 fullShare d)
        ∗ (iprop(owns (c : Thread nD τ) M1 fullShare x1 ∗ owns (c : Thread nD τ) M2 fullShare x2
            ∗ ∃ X, ⌜KnnCols (View.ld x1 rPts) (View.ld x2 rRow) X⌝ ∗ owns (c : Thread nD τ) M3 fullShare X) -∗ K ⟨⟩))
      ⊢ wp frame (wpE (defs₀ (F := F)) Variants.none c none) E (cc0__knn_body i M1 h1 M2 h2 M3 h3) K := by
  rw [cc0__knn_body_eq_skeleton]
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap
  · iexists _; isplitr
    swap; · iexact H3
    ipureintro; rfl
  ipureintro
  obtain ⟨e0, e1, e2, e3, e4, e5, e6, e7, e8⟩ := ld_nine M3.view f3 _ _ _ _ _ _ _ _ _ _ rfl
  exact ⟨e0, e1, e2, e3, e4, e5, e6, e7, e8⟩

end Cert.Proof.Emb

end
-- ==== Proof.KnnRegion.lean ====
/-
  The neighbour call as a region of @main. Its output window is held to a relation (nine columns at the body's text, the other
  seven at anything), so what the region leaves in the staging array is named by contents `X`, one block for each grid point.
-/
module

public import proofs.«01_k».proof.Proof.KnnBody
public import proofs.«01_k».proof.Proof.Gen.KernelIdeal.Regions
public import Idealize.ShloMosaic.Lib.Pipeline.DatRel
public import Idealize.ShloMosaic.Lib.Pipeline.ArrRel
public import Idealize.ShloMosaic.Lib.Pipeline.RegionsForgetLinks

@[expose] public section

noncomputable section

namespace Cert.Proof.Emb

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ UU ℕ

/-- The contents of a core's buffers, by reference. -/
abbrev Cont (F : FTy → Type) [FloatOps F] : Type := (c : Dev nD) → (b : Ref sig .tc) → Buf (Elt F) ((c : Thread nD τ).loc b)

/-- What the body leaves in its output block, one block for each grid point. -/
abbrev Blocks (F : FTy → Type) [FloatOps F] : Type := Fin cfg0.N → Vec F S64x16 .f32

/-- No core owes another anything, so no level is assigned. -/
abbrev noIx : GSem nD τ sig → Finset Unit := fun _ => ∅
abbrev noLv : GSem nD τ sig → Unit → ℕ := fun _ _ => 0
abbrev 𝒱₀ : Variants := Variants.none

section Data
variable (V : Cont F) (c : Dev nD)

/-- A window's block of its array as the region finds it. -/
abbrev kblk (w : Fin cfg0.W) (t : Fin cfg0.N) : (((cfg0.win w).xblock (cfg0.grid.coords t)).Idx → Elt F (cfg0.win w).elt) :=
  ((cfg0.win w).blk t).view.read (Elt F) (V c (Pipeline.arrRef spec0 w))

/-- Some blocks, where the data's choice of them is not read. -/
def k0 : Blocks F := fun _ _ => FloatOps.ofBits .f32 0

/-- The region's data when the body leaves `X` in the output's blocks. -/
def kdat (X : Blocks F) : Dat τ (Elt F) Unit ℕ UU ℕ cfg0 c where
  A w := V c (Pipeline.arrRef spec0 w)
  after w t := match w with
    | ⟨0, _⟩ => kblk V c 0 t
    | ⟨1, _⟩ => kblk V c 1 t
    | ⟨2, _⟩ => X t
  Φ _ := Pipeline.scopedRest (Ix := Unit) (Name := ℕ) (U := UU) (Lvl := ℕ) (Val := Elt F) spec0 c
  q _ := fullShare
  owed _ := 0

theorem kdat_A (X : Blocks F) (w : Fin cfg0.W) : (kdat V c X).A w = V c (Pipeline.arrRef spec0 w) := by
  dsimp only [kdat]
theorem kdat_after0 (X : Blocks F) (t : Fin cfg0.N) : (kdat V c X).after 0 t = kblk V c 0 t := by dsimp only [kdat]
theorem kdat_after1 (X : Blocks F) (t : Fin cfg0.N) : (kdat V c X).after 1 t = kblk V c 1 t := by dsimp only [kdat]
theorem kdat_after2 (X : Blocks F) (t : Fin cfg0.N) : (kdat V c X).after 2 t = X t := by dsimp only [kdat]

/-- The inputs hold their blocks at every point. -/
theorem kdat_before0 (X : Blocks F) (t : Fin cfg0.N) (d) : (kdat V c X).before 0 t d = kblk V c 0 t :=
  (Dat.before_in_eq_fetched (kdat V c X) 0 rfl (fun _ => rfl) (fun _ _ _ => rfl) (fun t => by rw [kdat_after0]; rfl) t d).trans (by
    unfold Dat.fetched Dat.blockOf; rw [kdat_A]; rfl)
theorem kdat_before1 (X : Blocks F) (t : Fin cfg0.N) (d) : (kdat V c X).before 1 t d = kblk V c 1 t :=
  (Dat.before_in_eq_fetched (kdat V c X) 1 rfl (fun _ => rfl) (fun _ _ _ => rfl) (fun t => by rw [kdat_after1]; rfl) t d).trans (by
    unfold Dat.fetched Dat.blockOf; rw [kdat_A]; rfl)

/-- The output window is the one held to a relation. -/
abbrev kmark : Fin cfg0.W → Bool := fun | ⟨0, _⟩ => false | ⟨1, _⟩ => false | ⟨2, _⟩ => true

/-- The relation: the nine columns at what the text computes from the two inputs' blocks. -/
abbrev kcols (t : Fin cfg0.N) (X : Vec F S64x16 .f32) : Prop := KnnCols (View.ld (kblk V c 0 t : Vec F S3x1024 .f32) rPts) (View.ld (kblk V c 1 t : Vec F S64x3 .f32) rRow) X

def krel : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => kcols V c t X

theorem krel2 : krel V c 2 = fun t X => kcols V c t X := rfl

/-- The body at the region's point, with its output held to the relation. -/
theorem kbody (t : Fin cfg0.N) :
    iprop((kdat V c k0).Φ t.castSucc ∗ (kdat V c k0).owesAt () t.castSucc
        ∗ (∃ d, owns (c : Thread nD τ) (st0_0 t) fullShare ((kdat V c k0).before 0 t d))
        ∗ (∃ d, owns (c : Thread nD τ) (st0_1 t) fullShare ((kdat V c k0).before 1 t d))
        ∗ (∃ Y, ⌜((kdat V c k0).toRRel kmark (krel V c)).Finds 2 t Y⌝ ∗ owns (c : Thread nD τ) (st0_2 t) fullShare Y))
      ⊢ wp frame (wpE (defs₀ (F := F)) 𝒱₀ c none) Set.univ (bodyAt0 t) fun _ =>
        (iprop((kdat V c k0).Φ t.succ ∗ (kdat V c k0).owesAt () t.succ
          ∗ owns (c : Thread nD τ) (st0_0 t) fullShare ((kdat V c k0).after 0 t)
          ∗ owns (c : Thread nD τ) (st0_1 t) fullShare ((kdat V c k0).after 1 t)
          ∗ (∃ X, ⌜krel V c 2 t X⌝ ∗ owns (c : Thread nD τ) (st0_2 t) fullShare X)) : sProp 𝕄) := by
  simp only [kdat_before0, kdat_before1]
  rw [show (kdat V c k0).Φ t.succ = (kdat V c k0).Φ t.castSucc from rfl,
    show (kdat V c k0).owesAt () t.succ = (kdat V c k0).owesAt () t.castSucc from rfl,
    kdat_after0, kdat_after1, krel2]
  iintro ⟨HΦ, Ho, ⟨%d0, H0⟩, ⟨%d1, H1⟩, ⟨%d2, -, H2⟩⟩
  iapply (knn_sound c Set.univ _ _ _ _ _ _ _ (kblk V c 0 t) (kblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem krow (t : Fin cfg0.N) : defs₀ (F := F) .tc cfg0.body (cfg0.bodyArgs t (cfg0.slots t)) = bodyAt0 t := by
  unfold defs₀; rw [Defs.onTc_tc]

theorem kobligation : BodyObligationRel (kdat V c k0) (defs₀ (F := F)) 𝒱₀ () Set.univ kmark (krel V c) := fun t => by
  rw [bigSep_W0, bigSep_W0, krow]
  exact triple_restated (kbody V c t) rfl .rfl fun _ => .rfl

/-- The region's relational data. -/
abbrev krdat : RDat τ (Elt F) Unit ℕ UU ℕ cfg0 c := (kdat V c k0).toRRel kmark (krel V c)

/-- The staging array after the region, when the body leaves `X`. -/
def karr (X : Blocks F) : Buf (Elt F) ((c : Thread nD τ).loc main_call0_v1) := (kdat V c X).arrAt 2 cfg0.N

/-- What the arrays may hold after the region: the inputs as found, the staging array at `karr` of blocks that meet the relation. -/
theorem karr_of (A : (w : Fin cfg0.W) → Buf (Elt F) ((cfg0.win w).arr.view.loc (c : Thread nD τ)))
    (hA : ∀ w, (krdat V c).ArrAt w cfg0.N (A w)) :
    ∃ X : Blocks F, (∀ t, kcols V c t (X t)) ∧ A 0 = V c (Pipeline.arrRef spec0 0) ∧ A 1 = V c (Pipeline.arrRef spec0 1) ∧ A 2 = karr V c X := by
  obtain ⟨X, hX, hE⟩ := (hA 2).exists_exact
  refine ⟨X, fun t => ?_, ?_, ?_, ?_⟩
  · have h := Dat.toRRel_leaves (kdat V c k0) (w := 2) rfl (hX t t.isLt (flush0_2 t))
    rw [krel2] at h; exact h
  · obtain ⟨after, -, hE0⟩ := RDat.ArrAt.exists_exact_all hA
    rw [hE0 0]; exact Dat.arrAt_in _ 0 rfl _
  · obtain ⟨after, -, hE0⟩ := RDat.ArrAt.exists_exact_all hA
    rw [hE0 1]; exact Dat.arrAt_in _ 1 rfl _
  · exact hE (kdat V c X).after fun u _ _ => kdat_after2 V c X u

end Data

/-! ## The region over the thread state -/

/-- What rides beside the buffers: the core's dues, none. -/
abbrev Rest (c : Dev nD) : sProp (MT nD τ sig Unit (Elt F) ℕ UU ℕ) := iprop(∃ W, owes (c : Thread nD τ) (0 : CellTallies nD τ sig Unit) W)

/-- Data for a pipeline that a record does not run. -/
def idleDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- Arrays at what they may hold are arrays at some contents that they may hold. -/
theorem arraysAt_some {cfg : Cfg sig Λ₀} {c : Dev nD} (rd : RDat τ (Elt F) Unit ℕ UU ℕ cfg c) (n : ℕ) :
    rd.arraysAt n ⊢ (iprop(∃ A, ⌜∀ w, rd.ArrAt w n (A w)⌝ ∗ rd.arrays A) : sProp 𝕄) := by
  unfold RDat.arraysAt RDat.arrays
  refine (BI.bigSep_exists_pi Finset.univ _).trans ?_
  iintro ⟨%A, H⟩
  ihave H' := (bigSep_pure_sep Finset.univ (fun w => rd.ArrAt w n (A w)) _) $$ H
  icases H' with ⟨%hA, H⟩
  iexists A
  isplitr; · ipureintro; exact fun w => hA w (Finset.mem_univ w)
  iexact H

/-- The same data, exact. -/
def kdats (V : Cont F) : (p : Fin 2) → (c : Dev nD) → Dat τ (Elt F) Unit ℕ UU ℕ (Pipeline.pin (pcfgs (F := F)) adm p) c
  | ⟨0, _⟩ => fun c => kdat V c k0
  | ⟨1, _⟩ => fun c => idleDat c

/-- The invariant of the region: the scoped buffers that it does not stage. -/
abbrev kΦ (c : Dev nD) : sProp (MT nD τ sig Unit (Elt F) ℕ UU ℕ) := Pipeline.scopedRest (Ix := Unit) (Name := ℕ) (U := UU) (Lvl := ℕ) (Val := Elt F) spec0 c

/-- The record's data: the neighbour call's at pipeline 0. -/
def krdats (V : Cont F) : (p : Fin 2) → (c : Dev nD) → RDat τ (Elt F) Unit ℕ UU ℕ (Pipeline.pin (pcfgs (F := F)) adm p) c
  | ⟨0, _⟩ => fun c => krdat V c
  | ⟨1, _⟩ => fun c => (idleDat c).toR

variable (V : Dev nD → Valuation τ sig (Elt F))

/-- The valuation read by reference. -/
abbrev contOf : Cont F := fun c b => V c b

/-- The buffers after the region, when the body leaves `X`. -/
abbrev afterK (X : Blocks F) (c : Dev nD) : Valuation τ sig (Elt F) := Function.update (V c) (Proc.devRef .tc main_call0_v1) (karr (contOf V) c X)

theorem afterK_of (X : Blocks F) (c : Dev nD) (r : Ref sig .tc) (h : r ≠ main_call0_v1) : afterK V X c r = V c r := by
  unfold afterK; exact Function.update_of_ne (StableHlo.devRef_ne_of_ne h) _ _

theorem afterK_self (X : Blocks F) (c : Dev nD) : afterK V X c main_call0_v1 = karr (contOf V) c X := by
  unfold afterK; exact Function.update_self _ _ _

set_option backward.isDefEq.respectTransparency.types false in
/-- The neighbour call's record: from every buffer at `V` to every buffer at `afterK V X` for some blocks `X` that meet the relation. -/
def kreg : RDat.RegionSeg (pcfgs (F := F)) adm (krdats (contOf V)) () defs₀ 𝒱₀ noIx noLv 0 where
  win := launch0.win.to₀
  block_pos := launch0.block_pos
  stage_whole := launch0.stage_whole
  K := PEmpty
  osem k := k.elim
  ho := Pipeline.OwnSemFacts.none _
  hbody c := (kobligation (contOf V) c).toRRel
  hwaits := RDat.hwaits_of_owed_zero _ _ _ _ noIx noLv 0 fun _ _ => rfl
  pre c := iprop(StableHlo.held (c : Thread nD τ) (Pipeline.ucRefs τ sig) (V c) ∗ Rest c)
  post c := iprop(∃ X : Blocks F, StableHlo.held (c : Thread nD τ) (Pipeline.ucRefs τ sig) (afterK V X c) ∗ ⌜∀ t, kcols (contOf V) c t (X t)⌝ ∗ Rest c)
  X _ := BI.emp
  Y _ := BI.emp
  Z c := Pipeline.unscopedRest (Ix := Unit) (Name := ℕ) (U := UU) (Lvl := ℕ) spec0 c (contOf V c)
  hentry c := by
    rw [Pipeline.ownSems0_none, ← Pipeline.unscopedBufs_held (Ix := Unit) (Name := ℕ) (U := UU) (Lvl := ℕ) c (V c)]
    have hsplit := RDat.arrays_of_unscopedBufs (p := 0) (pcfgs (F := F)) adm (krdats (contOf V)) launch0.win launch0.arr_whole c
      ((kdat (contOf V) c k0).share_full fun _ => rfl) (contOf V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (krdats (contOf V) 0 c).Φ 0 = kΦ c from rfl]
    iintro ⟨-, -, Hr⟩; iexact Hr
  hout c := by
    rw [Pipeline.ownSems0_none, show (krdats (contOf V) 0 c).Φ (Fin.last _) = kΦ c from rfl]
    iintro Hr
    isplitr; · iempintro
    isplitr; · iempintro
    iexact Hr
  hexit c := by
    rw [show (krdats (contOf V) 0 c).arraysAt (Pipeline.pin (pcfgs (F := F)) adm 0).N = (krdat (contOf V) c).arraysAt cfg0.N from rfl]
    iintro ⟨Ha, HO, -, Hrest⟩
    have hsome : (krdat (contOf V) c).arraysAt cfg0.N ⊢ (iprop(∃ A, ⌜∀ w, (krdat (contOf V) c).ArrAt w cfg0.N (A w)⌝
        ∗ (kdats (contOf V) 0 c).arrays A) : sProp 𝕄) := arraysAt_some (krdat (contOf V) c) cfg0.N
    ihave Ha' := hsome $$ Ha
    icases Ha' with ⟨%A, %hA, Ha⟩
    obtain ⟨X, hX, h0, h1, h2⟩ := karr_of (contOf V) c A hA
    have hjoin := Pipeline.unscopedBufs_of_arrays (p := 0) (pcfgs (F := F)) adm (Ix := Unit) (Name := ℕ) (U := UU) (Lvl := ℕ) launch0.win launch0.arr_whole c
      (kdats (contOf V)) ((kdat (contOf V) c k0).share_full fun _ => rfl) (contOf V c) (fun b => afterK V X c b) A
      (fun w => by
        fin_cases w
        · exact h0.trans (afterK_of V X c _ (by decide)).symm
        · exact h1.trans (afterK_of V X c _ (by decide)).symm
        · exact h2.trans (afterK_self V X c).symm)
      (fun b hb => afterK_of V X c b fun h => hb (h ▸ Finset.mem_image.mpr ⟨2, Finset.mem_univ _, rfl⟩))
    imodintro
    iexists X
    rw [← Pipeline.unscopedBufs_held (Ix := Unit) (Name := ℕ) (U := UU) (Lvl := ℕ) c (afterK V X c)]
    isplitl [Ha Hrest]
    · iapply hjoin
      isplitl [Ha] <;> iassumption
    isplitr; · ipureintro; exact hX
    unfold RDat.owesAt Pipeline.owesWithin
    icases HO with ⟨%W, -, HO⟩; iexists W; iexact HO

end Cert.Proof.Emb
-- ==== Proof.EmbBody.lean ====
/-
  The body of the embedding kernel, run once: nine inputs as they were, the output block at what its text computes.
-/
module

public import proofs.«01_k».proof.Proof.KnnBody

@[expose] public section

noncomputable section

namespace Cert.Proof.Emb

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the body stores, as a function of its inputs -/

/-- The whole rectangles the body loads and stores through. -/
abbrev rP : Rect S3x128 := Rect.unit (s := S3x128) ![0, 0] S3x128.size inb_S3x128_S3x128_0_0
abbrev rD : Rect S1x32 := Rect.unit (s := S1x32) ![0, 0] S1x32.size inb_S1x32_S1x32_0_0
abbrev rW : Rect S32x64 := Rect.unit (s := S32x64) ![0, 0] S32x64.size inb_S32x64_S32x64_0_0
abbrev rB : Rect S1x64 := Rect.unit (s := S1x64) ![0, 0] S1x64.size inb_S1x64_S1x64_0_0
abbrev rO : Rect S64x128x64 := Rect.unit (s := S64x128x64) ![0, 0, 0] S64x128x64.size inb_S64x128x64_S64x128x64_0_0_0

section Out
variable (a : Vec F S3x128 .f32) (b : Vec F S64x3 .f32) (e0 e1 e2 e3 e4 e5 e6 e7 e8 : Vec F S64x1 .f32) (d : Vec F S1x32 .f32)
  (ws wc vs vc : Vec F S32x64 .bf16) (bias : Vec F S1x64 .f32)

/-- The output block after the first angle, -/
abbrev out1 : FVec F S64x128x64 .f32 :=
  k1_pay14 (k1_pay13 (k1_pay9 vs) (k1_pay10 vc) (k1_pay11 (k1_pay5 a b) (k1_pay6 a b) (k1_pay7 a b) e0 e1 e2) (k1_pay12 (k1_pay8 d)))
/-- after the second, -/
abbrev out2 (o : FVec F S64x128x64 .f32) : FVec F S64x128x64 .f32 :=
  k1_pay22 (k1_pay16 vs) (k1_pay17 vc) (k1_pay20 (k1_pay8 d) (k1_pay15 (k1_pay5 a b) (k1_pay6 a b) (k1_pay7 a b) e3 e4 e5))
    (k1_pay21 (k1_pay8 d) (k1_pay15 (k1_pay5 a b) (k1_pay6 a b) (k1_pay7 a b) e3 e4 e5)) o
/-- The third angle's two arguments and the rest. -/
abbrev y3 : FVec F S64x128 .f32 := k1_pay26 (k1_pay5 a b) (k1_pay6 a b) (k1_pay7 a b) e6 e7 e8
abbrev p3 : FVec F S64x128 .f32 := k1_pay27 (k1_pay5 a b) (k1_pay6 a b) e6 e7
abbrev q3 : FVec F S64x128 .f32 := k1_pay28 (k1_pay7 a b) e8
/-- After the third angle, -/
abbrev out3 (o : FVec F S64x128x64 .f32) : FVec F S64x128x64 .f32 :=
  k1_pay36 (k1_pay29 vs) (k1_pay30 vc) (k1_pay32 (k1_pay8 d) (y3 a b e6 e7 e8) (p3 a b e6 e7) (q3 a b e8))
    (k1_pay33 (k1_pay8 d) (y3 a b e6 e7 e8) (p3 a b e6 e7) (q3 a b e8)) (k1_pay34 (k1_pay8 d) (y3 a b e6 e7 e8) (p3 a b e6 e7) (q3 a b e8)) k1_pay35 o
/-- and the whole body: the distance embedding added and the bias. -/
abbrev out4 (o : FVec F S64x128x64 .f32) : FVec F S64x128x64 .f32 :=
  k1_pay1 (k1_pay42 (k1_pay37 ws) (k1_pay38 wc) (k1_pay39 (k1_pay4 a b) (k1_pay8 d)) (k1_pay40 (k1_pay4 a b) (k1_pay8 d)) k1_pay41 o) (k1_pay43 bias)

/-- What the body stores last, from its loads. -/
def embOut : FVec F S64x128x64 .f32 :=
  out4 a b d ws wc bias (out3 a b e6 e7 e8 d vs vc (out2 a b e3 e4 e5 d vs vc (out1 a b e0 e1 e2 d vs vc)))
end Out

/-- The output block from the nine input blocks. -/
def embBlk (x2 : Vec F S3x128 .f32) (x3 : Vec F S64x3 .f32) (x4 : Vec F S64x16 .f32) (x5 : Vec F S1x32 .f32) (x6 : Vec F S32x64 .bf16) (x7 : Vec F S32x64 .bf16) (x8 : Vec F S32x64 .bf16) (x9 : Vec F S32x64 .bf16) (x10 : Vec F S1x64 .f32) : Vec F S64x128x64 .f32 :=
  embOut (View.ld x2 rP) (View.ld x3 rRow) (View.ld x4 rC0) (View.ld x4 rC1) (View.ld x4 rC2) (View.ld x4 rC3) (View.ld x4 rC4) (View.ld x4 rC5)
    (View.ld x4 rC6) (View.ld x4 rC7) (View.ld x4 rC8) (View.ld x5 rD) (View.ld x6 rW) (View.ld x7 rW) (View.ld x8 rW) (View.ld x9 rW) (View.ld x10 rB)

/-- A whole store read back. -/
theorem read_whole_store {sg : RefSig} {κ : Kind} {sp : Space} (v : View sg κ sp S64x128x64 .f32) (f : v.ty.Contents (Elt F))
    (w : FVec F S64x128x64 .f32) (L : List (View.Piece (Elt F) S64x128x64 .f32)) :
    v.read (Elt F) (v.writes (Elt F) f (⟨rO, w⟩ :: L)) = w := by
  funext y
  refine View.read_writes_cons_hit_of_coords v f rO w L y y fun a => ?_
  fin_cases a <;> simp

/-- The body on whole staging buffers. -/
theorem emb_sound (c : Dev nD) (E : Set ℕ) (i : grid1.Coords) (M2 : Memref sig .tc .vmem S3x128 .f32) (h2 : M2.IsWhole) (M3 : Memref sig .tc .vmem S64x3 .f32) (h3 : M3.IsWhole) (M4 : Memref sig .tc .vmem S64x16 .f32) (h4 : M4.IsWhole) (M5 : Memref sig .tc .vmem S1x32 .f32) (h5 : M5.IsWhole) (M6 : Memref sig .tc .vmem S32x64 .bf16) (h6 : M6.IsWhole) (M7 : Memref sig .tc .vmem S32x64 .bf16) (h7 : M7.IsWhole) (M8 : Memref sig .tc .vmem S32x64 .bf16) (h8 : M8.IsWhole) (M9 : Memref sig .tc .vmem S32x64 .bf16) (h9 : M9.IsWhole) (M10 : Memref sig .tc .vmem S1x64 .f32) (h10 : M10.IsWhole) (M11 : Memref sig .tc .vmem S64x128x64 .f32) (h11 : M11.IsWhole)
    (x2 : Vec F S3x128 .f32) (x3 : Vec F S64x3 .f32) (x4 : Vec F S64x16 .f32) (x5 : Vec F S1x32 .f32) (x6 : Vec F S32x64 .bf16) (x7 : Vec F S32x64 .bf16) (x8 : Vec F S32x64 .bf16) (x9 : Vec F S32x64 .bf16) (x10 : Vec F S1x64 .f32) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ d, owns (c : Thread nD τ) M11 fullShare d)
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10
            ∗ owns (c : Thread nD τ) M11 fullShare (embBlk x2 x3 x4 x5 x6 x7 x8 x9 x10)) -∗ K ⟨⟩))
      ⊢ wp frame (wpE (defs₀ (F := F)) Variants.none c none) E
          (cc1__emb_body i M2 h2 M3 h3 M4 h4 M5 h5 M6 h6 M7 h7 M8 h8 M9 h9 M10 h10 M11 h11) K := by
  rw [cc1__emb_body_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  rw [read_whole_store]
  unfold embBlk embOut
  unfold emb_sound.sl.r_28 emb_sound.sl.v396 emb_sound.sl.H11_3
  rw [View.readCov_cons_toLoadRect]
  unfold emb_sound.sl.v337 emb_sound.sl.H11_2
  rw [View.readCov_cons_toLoadRect]
  unfold emb_sound.sl.v238 emb_sound.sl.H11_1
  rw [View.readCov_cons_toLoadRect]
  rfl

end Cert.Proof.Emb

end
-- ==== Proof.EmbRegion.lean ====
/-
  The embedding call as a region of @main, entered from any contents of the buffers. Every window's block is whole, its nine inputs
  hold their blocks at every grid point, and the output's block is what the body's text computes from them.
-/
module

public import proofs.«01_k».proof.Proof.KnnRegion
public import proofs.«01_k».proof.Proof.EmbBody

@[expose] public section

noncomputable section

namespace Cert.Proof.Emb

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

section Data
variable (V : Cont F) (c : Dev nD)

/-- A window's block of its array as the region finds it. -/
abbrev eblk (w : Fin cfg1.W) (t : Fin cfg1.N) : (((cfg1.win w).xblock (cfg1.grid.coords t)).Idx → Elt F (cfg1.win w).elt) :=
  ((cfg1.win w).blk t).view.read (Elt F) (V c (Pipeline.arrRef spec1 w))

/-- What the body leaves in the output's block. -/
abbrev eout (t : Fin cfg1.N) : Vec F S64x128x64 .f32 :=
  embBlk (eblk V c 0 t) (eblk V c 1 t) (eblk V c 2 t) (eblk V c 3 t) (eblk V c 4 t) (eblk V c 5 t) (eblk V c 6 t) (eblk V c 7 t) (eblk V c 8 t)

/-- The region's data. -/
def edat : Dat τ (Elt F) Unit ℕ UU ℕ cfg1 c where
  A w := V c (Pipeline.arrRef spec1 w)
  after w t := match w with
    | ⟨0, _⟩ => eblk V c 0 t
    | ⟨1, _⟩ => eblk V c 1 t
    | ⟨2, _⟩ => eblk V c 2 t
    | ⟨3, _⟩ => eblk V c 3 t
    | ⟨4, _⟩ => eblk V c 4 t
    | ⟨5, _⟩ => eblk V c 5 t
    | ⟨6, _⟩ => eblk V c 6 t
    | ⟨7, _⟩ => eblk V c 7 t
    | ⟨8, _⟩ => eblk V c 8 t
    | ⟨9, _⟩ => eout V c t
  Φ _ := Pipeline.scopedRest (Ix := Unit) (Name := ℕ) (U := UU) (Lvl := ℕ) (Val := Elt F) spec1 c
  q _ := fullShare
  owed _ := 0

theorem edat_A (w : Fin cfg1.W) : (edat V c).A w = V c (Pipeline.arrRef spec1 w) := by dsimp only [edat]
theorem edat_after0 (t : Fin cfg1.N) : (edat V c).after 0 t = eblk V c 0 t := by dsimp only [edat]
theorem edat_after1 (t : Fin cfg1.N) : (edat V c).after 1 t = eblk V c 1 t := by dsimp only [edat]
theorem edat_after2 (t : Fin cfg1.N) : (edat V c).after 2 t = eblk V c 2 t := by dsimp only [edat]
theorem edat_after3 (t : Fin cfg1.N) : (edat V c).after 3 t = eblk V c 3 t := by dsimp only [edat]
theorem edat_after4 (t : Fin cfg1.N) : (edat V c).after 4 t = eblk V c 4 t := by dsimp only [edat]
theorem edat_after5 (t : Fin cfg1.N) : (edat V c).after 5 t = eblk V c 5 t := by dsimp only [edat]
theorem edat_after6 (t : Fin cfg1.N) : (edat V c).after 6 t = eblk V c 6 t := by dsimp only [edat]
theorem edat_after7 (t : Fin cfg1.N) : (edat V c).after 7 t = eblk V c 7 t := by dsimp only [edat]
theorem edat_after8 (t : Fin cfg1.N) : (edat V c).after 8 t = eblk V c 8 t := by dsimp only [edat]
theorem edat_after9 (t : Fin cfg1.N) : (edat V c).after 9 t = eout V c t := by dsimp only [edat]

/-! The inputs hold their blocks at every point. -/

theorem edat_before0 (t : Fin cfg1.N) (d) : (edat V c).before 0 t d = eblk V c 0 t :=
  (Dat.before_in_eq_fetched (edat V c) 0 rfl (fun _ => rfl) (fun _ _ _ => rfl) (fun t => by rw [edat_after0]; rfl) t d).trans (by
    unfold Dat.fetched Dat.blockOf; rw [edat_A]; rfl)
theorem edat_before1 (t : Fin cfg1.N) (d) : (edat V c).before 1 t d = eblk V c 1 t :=
  (Dat.before_in_eq_fetched (edat V c) 1 rfl (fun _ => rfl) (fun _ _ _ => rfl) (fun t => by rw [edat_after1]; rfl) t d).trans (by
    unfold Dat.fetched Dat.blockOf; rw [edat_A]; rfl)
theorem edat_before2 (t : Fin cfg1.N) (d) : (edat V c).before 2 t d = eblk V c 2 t :=
  (Dat.before_in_eq_fetched (edat V c) 2 rfl (fun _ => rfl) (fun _ _ _ => rfl) (fun t => by rw [edat_after2]; rfl) t d).trans (by
    unfold Dat.fetched Dat.blockOf; rw [edat_A]; rfl)
theorem edat_before3 (t : Fin cfg1.N) (d) : (edat V c).before 3 t d = eblk V c 3 t :=
  (Dat.before_in_eq_fetched (edat V c) 3 rfl (fun _ => rfl) (fun _ _ _ => rfl) (fun t => by rw [edat_after3]; rfl) t d).trans (by
    unfold Dat.fetched Dat.blockOf; rw [edat_A]; rfl)
theorem edat_before4 (t : Fin cfg1.N) (d) : (edat V c).before 4 t d = eblk V c 4 t :=
  (Dat.before_in_eq_fetched (edat V c) 4 rfl (fun _ => rfl) (fun _ _ _ => rfl) (fun t => by rw [edat_after4]; rfl) t d).trans (by
    unfold Dat.fetched Dat.blockOf; rw [edat_A]; rfl)
theorem edat_before5 (t : Fin cfg1.N) (d) : (edat V c).before 5 t d = eblk V c 5 t :=
  (Dat.before_in_eq_fetched (edat V c) 5 rfl (fun _ => rfl) (fun _ _ _ => rfl) (fun t => by rw [edat_after5]; rfl) t d).trans (by
    unfold Dat.fetched Dat.blockOf; rw [edat_A]; rfl)
theorem edat_before6 (t : Fin cfg1.N) (d) : (edat V c).before 6 t d = eblk V c 6 t :=
  (Dat.before_in_eq_fetched (edat V c) 6 rfl (fun _ => rfl) (fun _ _ _ => rfl) (fun t => by rw [edat_after6]; rfl) t d).trans (by
    unfold Dat.fetched Dat.blockOf; rw [edat_A]; rfl)
theorem edat_before7 (t : Fin cfg1.N) (d) : (edat V c).before 7 t d = eblk V c 7 t :=
  (Dat.before_in_eq_fetched (edat V c) 7 rfl (fun _ => rfl) (fun _ _ _ => rfl) (fun t => by rw [edat_after7]; rfl) t d).trans (by
    unfold Dat.fetched Dat.blockOf; rw [edat_A]; rfl)
theorem edat_before8 (t : Fin cfg1.N) (d) : (edat V c).before 8 t d = eblk V c 8 t :=
  (Dat.before_in_eq_fetched (edat V c) 8 rfl (fun _ => rfl) (fun _ _ _ => rfl) (fun t => by rw [edat_after8]; rfl) t d).trans (by
    unfold Dat.fetched Dat.blockOf; rw [edat_A]; rfl)

/-- The body at the region's point. -/
theorem ebody (t : Fin cfg1.N) :
    iprop((edat V c).Φ t.castSucc ∗ (edat V c).owesAt () t.castSucc
        ∗ (∃ d, owns (c : Thread nD τ) (st1_0 t) fullShare ((edat V c).before 0 t d))
        ∗ (∃ d, owns (c : Thread nD τ) (st1_1 t) fullShare ((edat V c).before 1 t d))
        ∗ (∃ d, owns (c : Thread nD τ) (st1_2 t) fullShare ((edat V c).before 2 t d))
        ∗ (∃ d, owns (c : Thread nD τ) (st1_3 t) fullShare ((edat V c).before 3 t d))
        ∗ (∃ d, owns (c : Thread nD τ) (st1_4 t) fullShare ((edat V c).before 4 t d))
        ∗ (∃ d, owns (c : Thread nD τ) (st1_5 t) fullShare ((edat V c).before 5 t d))
        ∗ (∃ d, owns (c : Thread nD τ) (st1_6 t) fullShare ((edat V c).before 6 t d))
        ∗ (∃ d, owns (c : Thread nD τ) (st1_7 t) fullShare ((edat V c).before 7 t d))
        ∗ (∃ d, owns (c : Thread nD τ) (st1_8 t) fullShare ((edat V c).before 8 t d))
        ∗ (∃ d, owns (c : Thread nD τ) (st1_9 t) fullShare ((edat V c).before 9 t d)))
      ⊢ wp frame (wpE (defs₀ (F := F)) 𝒱₀ c none) Set.univ (bodyAt1 t) fun _ =>
        (iprop((edat V c).Φ t.succ ∗ (edat V c).owesAt () t.succ
          ∗ owns (c : Thread nD τ) (st1_0 t) fullShare ((edat V c).after 0 t)
          ∗ owns (c : Thread nD τ) (st1_1 t) fullShare ((edat V c).after 1 t)
          ∗ owns (c : Thread nD τ) (st1_2 t) fullShare ((edat V c).after 2 t)
          ∗ owns (c : Thread nD τ) (st1_3 t) fullShare ((edat V c).after 3 t)
          ∗ owns (c : Thread nD τ) (st1_4 t) fullShare ((edat V c).after 4 t)
          ∗ owns (c : Thread nD τ) (st1_5 t) fullShare ((edat V c).after 5 t)
          ∗ owns (c : Thread nD τ) (st1_6 t) fullShare ((edat V c).after 6 t)
          ∗ owns (c : Thread nD τ) (st1_7 t) fullShare ((edat V c).after 7 t)
          ∗ owns (c : Thread nD τ) (st1_8 t) fullShare ((edat V c).after 8 t)
          ∗ owns (c : Thread nD τ) (st1_9 t) fullShare ((edat V c).after 9 t)) : sProp 𝕄) := by
  simp only [edat_before0, edat_before1, edat_before2, edat_before3, edat_before4, edat_before5, edat_before6, edat_before7, edat_before8]
  rw [show (edat V c).Φ t.succ = (edat V c).Φ t.castSucc from rfl,
    show (edat V c).owesAt () t.succ = (edat V c).owesAt () t.castSucc from rfl,
    edat_after0, edat_after1, edat_after2, edat_after3, edat_after4, edat_after5, edat_after6, edat_after7, edat_after8, edat_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (emb_sound c Set.univ _ _ _ _ _ _ _ _ _ _ _ _ _ _ _ _ _ _ _ _ _ (eblk V c 0 t) (eblk V c 1 t) (eblk V c 2 t) (eblk V c 3 t) (eblk V c 4 t) (eblk V c 5 t) (eblk V c 6 t) (eblk V c 7 t) (eblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem erow (t : Fin cfg1.N) : defs₀ (F := F) .tc cfg1.body (cfg1.bodyArgs t (cfg1.slots t)) = bodyAt1 t := by
  unfold defs₀; rw [Defs.onTc_tc]

theorem eobligation : BodyObligation (edat V c) (defs₀ (F := F)) 𝒱₀ () Set.univ := fun t => by
  rw [bigSep_W1, bigSep_W1, erow]
  exact triple_restated (ebody V c t) rfl .rfl fun _ => .rfl

/-- The result's array after the region. -/
def earr : Buf (Elt F) ((c : Thread nD τ).loc main_call0_v12) := (edat V c).arrAt 9 cfg1.N

end Data

/-! ## The region over the thread state -/

/-- The record's data: the embedding call's at pipeline 1. -/
def edats (V : Cont F) : (p : Fin 2) → (c : Dev nD) → Dat τ (Elt F) Unit ℕ UU ℕ (Pipeline.pin (pcfgs (F := F)) adm p) c
  | ⟨0, _⟩ => fun c => idleDat c
  | ⟨1, _⟩ => fun c => edat V c

/-- The invariant of the region: the scoped buffers that it does not stage. -/
abbrev eΦ (c : Dev nD) : sProp (MT nD τ sig Unit (Elt F) ℕ UU ℕ) := Pipeline.scopedRest (Ix := Unit) (Name := ℕ) (U := UU) (Lvl := ℕ) (Val := Elt F) spec1 c

variable (V : Dev nD → Valuation τ sig (Elt F))

/-- The buffers after the region. -/
abbrev afterE (c : Dev nD) : Valuation τ sig (Elt F) := Function.update (V c) (Proc.devRef .tc main_call0_v12) (earr (contOf V) c)

theorem afterE_of (c : Dev nD) (r : Ref sig .tc) (h : r ≠ main_call0_v12) : afterE V c r = V c r := by
  unfold afterE; exact Function.update_of_ne (StableHlo.devRef_ne_of_ne h) _ _

theorem afterE_self (c : Dev nD) : afterE V c main_call0_v12 = earr (contOf V) c := by
  unfold afterE; exact Function.update_self _ _ _

set_option backward.isDefEq.respectTransparency.types false in
/-- The embedding call's record: from every buffer at `V` to every buffer at `afterE V`. -/
def ereg : Pipeline.RegionSeg (pcfgs (F := F)) adm (edats (contOf V)) () defs₀ 𝒱₀ noIx noLv 1 where
  win := launch1.win.to₀
  block_pos := launch1.block_pos
  stage_whole := launch1.stage_whole
  K := PEmpty
  osem k := k.elim
  ho := Pipeline.OwnSemFacts.none _
  hbody c := (eobligation (contOf V) c).loose
  hwaits := Pipeline.hwaits_of_owed_zero _ _ _ _ noIx noLv 1 fun _ _ => rfl
  pre c := iprop(StableHlo.held (c : Thread nD τ) (Pipeline.ucRefs τ sig) (V c) ∗ Rest c)
  post c := iprop(StableHlo.held (c : Thread nD τ) (Pipeline.ucRefs τ sig) (afterE V c) ∗ Rest c)
  X _ := BI.emp
  Y _ := BI.emp
  Z c := Pipeline.unscopedRest (Ix := Unit) (Name := ℕ) (U := UU) (Lvl := ℕ) spec1 c (contOf V c)
  hentry c := by
    rw [Pipeline.ownSems0_none, ← Pipeline.unscopedBufs_held (Ix := Unit) (Name := ℕ) (U := UU) (Lvl := ℕ) c (V c)]
    have hsplit := Pipeline.arrays_of_unscopedBufs (p := 1) (pcfgs (F := F)) adm (edats (contOf V)) launch1.win launch1.arr_whole c
      ((edat (contOf V) c).share_full fun _ => rfl) (contOf V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (edats (contOf V) 1 c).Φ 0 = eΦ c from rfl]
    iintro ⟨-, -, Hr⟩; iexact Hr
  hout c := by
    rw [Pipeline.ownSems0_none, show (edats (contOf V) 1 c).Φ (Fin.last _) = eΦ c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (edats (contOf V)) ((edat (contOf V) c).share_full fun _ => rfl) (contOf V c) (fun b => afterE V c b) ((edats (contOf V) 1 c).arrAt · cfg1.N)
      (fun w => by
        fin_cases w
        · exact ((edat (contOf V) c).arrAt_in 0 rfl _).trans (afterE_of V c _ (by decide)).symm
        · exact ((edat (contOf V) c).arrAt_in 1 rfl _).trans (afterE_of V c _ (by decide)).symm
        · exact ((edat (contOf V) c).arrAt_in 2 rfl _).trans (afterE_of V c _ (by decide)).symm
        · exact ((edat (contOf V) c).arrAt_in 3 rfl _).trans (afterE_of V c _ (by decide)).symm
        · exact ((edat (contOf V) c).arrAt_in 4 rfl _).trans (afterE_of V c _ (by decide)).symm
        · exact ((edat (contOf V) c).arrAt_in 5 rfl _).trans (afterE_of V c _ (by decide)).symm
        · exact ((edat (contOf V) c).arrAt_in 6 rfl _).trans (afterE_of V c _ (by decide)).symm
        · exact ((edat (contOf V) c).arrAt_in 7 rfl _).trans (afterE_of V c _ (by decide)).symm
        · exact ((edat (contOf V) c).arrAt_in 8 rfl _).trans (afterE_of V c _ (by decide)).symm
        · exact (afterE_self V c).symm)
      (fun b hb => afterE_of V c b fun h => hb (h ▸ Finset.mem_image.mpr ⟨9, Finset.mem_univ _, rfl⟩))
    iintro ⟨Ha, HO, -, Hrest⟩
    imodintro
    rw [← Pipeline.unscopedBufs_held (Ix := Unit) (Name := ℕ) (U := UU) (Lvl := ℕ) c (afterE V c)]
    isplitl [Ha Hrest]
    · iapply hjoin; isplitl [Ha] <;> iassumption
    unfold Pipeline.Dat.owesAt Pipeline.owesWithin
    icases HO with ⟨%W, -, HO⟩; iexists W; iexact HO

end Cert.Proof.Emb
-- ==== Proof.Run.lean ====
/-
  The run of the whole program, over any float values: five stretches of host operations and calls in a chain. Every execution
  ends, the arguments are as launched, every semaphore counter is at zero, and the result is what the second call leaves when
  the first leaves SOME blocks whose nine columns are at the body's text.
-/
module

public import proofs.«01_k».proof.Proof.EmbRegion
public import Idealize.ShloMosaic.Lib.HostLoop.Lifted
public import Idealize.ShloMosaic.Lib.HostLoop.Plain
public import Idealize.ShloMosaic.Lib.Pipeline.RegionsLoop
public import Idealize.ShloMosaic.Lib.Pipeline.RegionsOwned

@[expose] public section

noncomputable section

namespace Cert.Proof.Emb

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window CSeg Ticket cellOf)

variable {F : FTy → Type} [FloatOps F]

local notation "𝕄" => MT nD τ sig Unit (Elt F) ℕ UU ℕ

variable (m : (ℓ : Loc nD τ sig) → Buf (Elt F) ℓ)

/-! ## The buffers between the items -/

/-- After the first call. -/
abbrev S3 (X : Blocks F) (c : Dev nD) : Valuation τ sig (Elt F) := afterK (V2 m) X c
/-- After the host operations between the calls. -/
abbrev S4 (X : Blocks F) (c : Dev nD) : Valuation τ sig (Elt F) := StableHlo.after hostOps1 (S3 m X c)
/-- After the second call. -/
abbrev S5 (X : Blocks F) (c : Dev nD) : Valuation τ sig (Elt F) := afterE (S4 m X) c
/-- At the end. -/
abbrev S6 (X : Blocks F) (c : Dev nD) : Valuation τ sig (Elt F) := StableHlo.after hostOps2 (S5 m X c)

/-- What is known of the first call's blocks. -/
abbrev okBlocks (X : Blocks F) (c : Dev nD) : Prop := ∀ t, kcols (contOf (V2 m)) c t (X t)

/-- A reference that nothing writes reaches the end as launched. -/
theorem S6_of (X : Blocks F) (c : Dev nD) (r : Ref sig .tc) (h2 : r ∉ hostOps2_W) (h12 : r ≠ main_call0_v12) (h1 : r ∉ hostOps1_W)
    (hk : r ≠ main_call0_v1) (h01 : r ∉ hostOps0_1_W) (h0 : r ∉ hostOps0_W) : S6 m X c r = m ((c : Thread nD τ).loc r) :=
  (StableHlo.after_of_writes_sub hostOps2 _ hostOps2_writes h2).trans <| (afterE_of (S4 m X) c r h12).trans <|
    (StableHlo.after_of_writes_sub hostOps1 _ hostOps1_writes h1).trans <| (afterK_of (V2 m) X c r hk).trans <|
      (V2_of m c r h01).trans (V1_of m c r h0)

/-! ## The chain's segments -/

/-- The two calls' tickets, each in its own copy of the library's algebra. -/
abbrev tick (j : Fin 2) : Ticket (Ix := Unit) (Name := ℕ) (U := UU) (Lvl := ℕ) (nD := nD) (τ := τ) (pcfgs (F := F)) adm where
  p := j
  pdats := fun _ c => idleDat c
  EP := embAt j

/-- No host loop. -/
abbrev noLoops : Fin 0 → Prog (TpuEff nD τ sig (Elt F) (HostLoop.Sig (Pipeline.Sig Λ₀ (Fin 2) fun p => (pcfgs (F := F) p).Adm) 0) .tc) PUnit := fun l => l.elim0

local notation "SEG" => CSeg (pcfgs (F := F)) adm defs₀ 𝒱₀ noIx noLv noLoops (tick (F := F))

def g0 : SEG := CSeg.ofOps _ _ _ _ _ _ _ _ (Pipeline.ucRefs τ sig) hostOps0
  (fun op h => Pipeline.sub_ucRefs op ((List.forall_iff_forall_mem.mp hostOps0_sub) op h))
  (fun op h => (List.forall_iff_forall_mem.mp hostOps0_fresh) op h) (V0 m) Rest
def g1 : SEG := CSeg.ofOps _ _ _ _ _ _ _ _ (Pipeline.ucRefs τ sig) hostOps0_1
  (fun op h => Pipeline.sub_ucRefs op ((List.forall_iff_forall_mem.mp hostOps0_1_sub) op h))
  (fun op h => (List.forall_iff_forall_mem.mp hostOps0_1_fresh) op h) (V1 m) Rest
def g2 : SEG := CSeg.regionAtR (pcfgs (F := F)) adm () cellOf_inj defs₀ 𝒱₀ noIx noLv noLoops tick 0 (krdats (contOf (V2 m))) (kreg (V2 m))
def g3 : SEG := CSeg.exSel (okBlocks m) (fun X => CSeg.ofOps _ _ _ _ _ _ _ _ (Pipeline.ucRefs τ sig) hostOps1
  (fun op h => Pipeline.sub_ucRefs op ((List.forall_iff_forall_mem.mp hostOps1_sub) op h))
  (fun op h => (List.forall_iff_forall_mem.mp hostOps1_fresh) op h) (S3 m X) Rest) (StableHlo.seq hostOps1) (fun _ => rfl) 0 (fun _ => le_rfl) ∅ (fun _ => rfl)
def g4 : SEG := CSeg.regionF (pcfgs (F := F)) adm () cellOf_inj defs₀ 𝒱₀ noIx noLv noLoops tick 1 (fun X => edats (contOf (S4 m X))) (fun X => ereg (S4 m X)) (okBlocks m)
def g5 : SEG := CSeg.exSel (okBlocks m) (fun X => CSeg.ofOps _ _ _ _ _ _ _ _ (Pipeline.ucRefs τ sig) hostOps2
  (fun op h => Pipeline.sub_ucRefs op ((List.forall_iff_forall_mem.mp hostOps2_sub) op h))
  (fun op h => (List.forall_iff_forall_mem.mp hostOps2_fresh) op h) (S5 m X) Rest) (StableHlo.seq hostOps2) (fun _ => rfl) 0 (fun _ => le_rfl) ∅ (fun _ => rfl)

def segList : List SEG := [g0 m, g1 m, g2 m, g3 m, g4 m, g5 m]

/-- Each call is entered once. -/
theorem segs_disjoint : (segList m).Pairwise fun s s' => Disjoint s.T s'.T := by
  have h0 : (g0 m).T = ∅ := rfl
  have h1 : (g1 m).T = ∅ := rfl
  have h2 : (g2 m).T = {0} := rfl
  have h3 : (g3 m).T = ∅ := rfl
  have h4 : (g4 m).T = {1} := rfl
  have h5 : (g5 m).T = ∅ := rfl
  simp [segList, h0, h1, h2, h3, h4, h5]

/-- The lifted program is the segments' chain. -/
theorem lifted_main (c : Dev nD) : HostLoop.liftProg (L := 0) (main (F := F) c) = CSeg.runL (segList m) := by
  rw [main_chain, HostLoop.liftProg_chain]
  simp only [List.map_cons, List.map_nil, HostLoop.liftProg_seq]
  rfl

/-- What is left at the end: every buffer at `S6` of some blocks. -/
abbrev Tend (c : Dev nD) : sProp (MT nD τ sig Unit (Elt F) ℕ UU ℕ) :=
  iprop(∃ X : Blocks F, StableHlo.held (c : Thread nD τ) (Pipeline.ucRefs τ sig) (S6 m X c) ∗ ⌜okBlocks m X c⌝)

theorem chains : CSeg.Chains (fun c => iprop(StableHlo.held (c : Thread nD τ) (Pipeline.ucRefs τ sig) (V0 m c) ∗ Rest c)) (segList m)
    fun c => iprop(Tend m c ∗ ∃ W, owes (c.tc : Thread nD τ) (0 : CellTallies nD τ sig Unit) W) := by
  refine ⟨fun c => .rfl, fun c => .rfl, fun c => .rfl, fun c => ?_, fun c => ?_, fun c => ?_, fun c => ?_⟩
  · show iprop(∃ X, StableHlo.held (c : Thread nD τ) (Pipeline.ucRefs τ sig) (S3 m X c) ∗ ⌜okBlocks m X c⌝ ∗ Rest c) ⊢ iprop(∃ X, ⌜okBlocks m X c⌝ ∗ StableHlo.held (c : Thread nD τ) (Pipeline.ucRefs τ sig) (S3 m X c) ∗ Rest c)
    iintro ⟨%X, H, %hX, HR⟩; iexists X; isplitr; · ipureintro; exact hX
    isplitl [H] <;> iassumption
  · refine CSeg.exSel_post c fun X hX => ?_
    show iprop(StableHlo.held (c : Thread nD τ) (Pipeline.ucRefs τ sig) (S4 m X c) ∗ Rest c) ⊢ iprop(∃ X, ⌜okBlocks m X c⌝ ∗ StableHlo.held (c : Thread nD τ) (Pipeline.ucRefs τ sig) (S4 m X c) ∗ Rest c)
    iintro H; iexists X; isplitr; · ipureintro; exact hX
    iexact H
  · refine CSeg.regionF_post c fun X hX => ?_
    show iprop(StableHlo.held (c : Thread nD τ) (Pipeline.ucRefs τ sig) (S5 m X c) ∗ Rest c) ⊢ iprop(∃ X, ⌜okBlocks m X c⌝ ∗ StableHlo.held (c : Thread nD τ) (Pipeline.ucRefs τ sig) (S5 m X c) ∗ Rest c)
    iintro H; iexists X; isplitr; · ipureintro; exact hX
    iexact H
  · refine CSeg.exSel_post c fun X hX => ?_
    show iprop(StableHlo.held (c : Thread nD τ) (Pipeline.ucRefs τ sig) (S6 m X c) ∗ Rest c) ⊢ _
    iintro ⟨H, HR⟩
    isplitl [H]
    · iexists X; isplitl [H]; · iexact H
      ipureintro; exact hX
    iexact HR

/-- The launch's element: the library's in each call's copy, no transfer's counter yet. -/
def u₀ : UU := (fun _ => initOf (Pipeline.cells (Pipeline.pin (pcfgs (F := F)) adm) cellOf_inj) (Pipeline.launchToks (Pipeline.pin (pcfgs (F := F)) adm) cellOf_inj), 1)

/-- What the final memory says. -/
abbrev Final (c : Dev nD) (s : MemSt nD τ sig (Elt F)) : Prop :=
  ∃ X : Blocks F, okBlocks m X c ∧ ∀ r : Ref sig .tc, r.isScoped = false → s.mem ((c : Thread nD τ).loc r) = S6 m X c r

set_option backward.isDefEq.respectTransparency.types false in
/-- The run of the lifted program. -/
theorem run_lifted (ρ : Dev nD → PrngReg) :
    θ_run (HostLoop.defs noLoops defs) (onTc (τ := τ) fun c => HostLoop.liftProg (L := 0) (main (F := F) c)) ⟨m, fun _ => 0, ρ⟩
      (fun r => (∀ c, Final m c r.2) ∧ r.2.sem = fun _ => 0) :=
  Pipeline.θ_run_regions_loop_kit_sems (pcfgs (F := F)) adm cellOf_inj defs₀ 𝒱₀ noIx noLv noLoops tick m ρ
    (fun c => HostLoop.liftProg (L := 0) (main (F := F) c)) (segList m)
    (fun c Q => by rw [lifted_main m c])
    (segs_disjoint m)
    (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]
      · iapply (own_iprod (fun _ : Fin 2 => initOf (Pipeline.cells (Pipeline.pin (pcfgs (F := F)) adm) cellOf_inj) (Pipeline.launchToks (Pipeline.pin (pcfgs (F := F)) adm) cellOf_inj)))
        iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tend m)
    (hch := chains m)
    (hinit := by
      refine Pipeline.initEach noIx noLv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := Final m)
    (hfin := fun c s' => by
      unfold Tend StableHlo.held
      iintro ⟨⟨%X, Hh, %hX⟩, HSI⟩
      ihave Hr := (pointsTo_read_all (Pipeline.ucRefs τ sig) (fun b => ((c : Thread nD τ).1, b)) (S6 m X c) s') $$ [Hh HSI]
      · isplitl [Hh] <;> iassumption
      icases Hr with ⟨%h, HSI⟩
      imodintro
      isplitr
      · ipureintro
        exact ⟨X, hX, fun r hr => h (Proc.devRef .tc r) (Finset.mem_filter.mpr ⟨StableHlo.devRef_mem_tcRefs r, by simp only [hr]; decide⟩)⟩
      iexact HSI)
    (hQ := fun _ h hz => ⟨h, funext fun g => hz g (.inr (regions_no_unscoped g.2))⟩)

/-- THE RUN, over any float values. -/
theorem run_main (ρ : Dev nD → PrngReg) : θ_run defs (onTc (τ := τ) (main (F := F))) ⟨m, fun _ => 0, ρ⟩
    (fun r => (∀ c, Final m c r.2) ∧ r.2.sem = fun _ => 0) :=
  HostLoop.θ_run_of_lift noLoops defs main ⟨m, fun _ => 0, ρ⟩ _ (run_lifted m ρ)

/-- THE FRAME, over any float values. -/
theorem frame_main (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨X, -, hr⟩ := h.1 c
    refine ⟨(hr main_arg0 (by decide)).trans (S6_of m X c _ ?_ ?_ ?_ ?_ ?_ ?_), (hr main_arg1 (by decide)).trans (S6_of m X c _ ?_ ?_ ?_ ?_ ?_ ?_),
      (hr main_arg2 (by decide)).trans (S6_of m X c _ ?_ ?_ ?_ ?_ ?_ ?_), (hr main_arg3 (by decide)).trans (S6_of m X c _ ?_ ?_ ?_ ?_ ?_ ?_),
      (hr main_arg4 (by decide)).trans (S6_of m X c _ ?_ ?_ ?_ ?_ ?_ ?_)⟩ <;> decide, h.2⟩) (run_main m ρ)

end Cert.Proof.Emb
-- ==== Proof.Frames.lean ====
/-
  The three frames. The kernel as printed and the kernel read at the ideal values have one text, so the run of Run.lean, which
  is over any float values, gives both.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

/-- The body table of the kernel as printed is that of the kernel read at the ideal values, label by label. -/
theorem defs₀_same : Cert.Kernel.defs₀ (F := Bits) = Cert.KernelIdeal.defs₀ (F := Bits) := by
  funext p
  cases p with
  | tc =>
    funext l a
    match l, a with
    | ⟨0, _⟩, (t, s) => rfl
    | ⟨1, _⟩, (t, s) => rfl
  | scScalar _ => rfl
  | scVector _ _ => rfl

/-- So are the two programs' tables. -/
theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [defs_same]; exact Emb.frame_main (F := Bits) m ρ

theorem frame_ideal : Cert.quiescent_KernelIdeal := fun m ρ _ => Emb.frame_main (F := Ideal) m ρ

/-- The reference declares no semaphore, so its run as generated is the frame. -/
theorem frame_reference : Cert.quiescent_ReferenceIdeal := fun m ρ _ =>
  (θ_run Cert.ReferenceIdeal.defs _ _).mono (fun _ h => ⟨fun c => (h c).2, funext fun g => nomatch g.2⟩)
    (Cert.ReferenceIdeal.Value.run (F := Ideal) m ρ)

end Cert.Proof

end
-- ==== Proof.EmbValue.lean ====
/-
  What the embedding kernel's body computes over the extended reals, read at an entry of its block: the distance of two points,
  the angle of two vectors, the fitted sine and cosine, and the two products.
-/
module

public import proofs.«01_k».proof.Proof.EmbBody
public import Idealize.ShloMosaic.Lib.Pointwise
public import Idealize.ShloMosaic.PureOps.Ideal

@[expose] public section

noncomputable section

namespace Cert.Proof.Emb

open Cert.KernelIdeal Cert.KernelIdeal.Gen
open Idealize.ShloMosaic

/-! ## The scalars -/

/-- A binary32 word as the extended real it denotes. -/
abbrev cw (b : BitVec 32) : EReal := Ideal.ofBits FTy.f32 b

/-- The distance of `r` and `p`, by the inner product. -/
def distK (r p : Fin 3 → EReal) : EReal :=
  Ideal.sqrt (max (r 0 * r 0 + r 1 * r 1 + r 2 * r 2 - cw 1073741824#32 * ∑ x, r x * p x + (p 0 * p 0 + p 1 * p 1 + p 2 * p 2)) 0)

/-- The sine's argument of the angle of `e` and `a`: the length of the cross product. -/
def sinArg (e a : Fin 3 → EReal) : EReal :=
  Ideal.sqrt ((e 1 * a 2 - e 2 * a 1) * (e 1 * a 2 - e 2 * a 1) + (e 2 * a 0 - e 0 * a 2) * (e 2 * a 0 - e 0 * a 2)
    + (e 0 * a 1 - e 1 * a 0) * (e 0 * a 1 - e 1 * a 0))
/-- The cosine's: the inner product. -/
def cosArg (e a : Fin 3 → EReal) : EReal := e 0 * a 0 + e 1 * a 1 + e 2 * a 2
/-- The angle, in the embedding's unit. -/
def angK (e a : Fin 3 → EReal) : EReal := Ideal.atan2 (sinArg e a) (cosArg e a) * cw 1081374277#32

/-- The signed distance of `x` over a whole turn from the nearest whole number. -/
def turn (x : EReal) : EReal := x * cw 1042479491#32 - Ideal.liftRound Int.floor (x * cw 1042479491#32 + cw 1056964608#32)

/-- The fitted sine, nested. -/
def sinH (r : EReal) : EReal :=
  r * (cw 0x40C90EC7#32 + r * r * (cw 0xC2255311#32 + r * r * (cw 0x42A2BB1F#32 + r * r * (cw 0xC294F10B#32 + r * r * cw 0x420312F9#32))))
/-- The fitted cosine, nested. -/
def cosH (r : EReal) : EReal :=
  cw 0x3F7FFFF3#32 + r * r * (cw 0xC19DE96F#32 + r * r * (cw 0x4281DB79#32 + r * r * (cw 0xC2AA8B0F#32 + r * r * (cw 0x426B2959#32 + r * r * cw 0xC1A89137#32))))

/-- The embedding of `f`, projected: the sines' product and the cosines'. -/
def embK (f : EReal) (d ws wc : Fin 32 → EReal) : EReal :=
  (∑ k, sinH (turn (f * d k)) * ws k) + ∑ k, cosH (turn (f * d k)) * wc k

/-! ## The body's pieces at an entry -/

section Pieces
variable (a : Vec Ideal S3x128 .f32) (b : Vec Ideal S64x3 .f32) (e0 e1 e2 : Vec Ideal S64x1 .f32) (d : Vec Ideal S1x32 .f32)
  (vs vc : Vec Ideal S32x64 .bf16) (bias : Vec Ideal S1x64 .f32) (o : FVec Ideal S64x128x64 .f32) (r : Fin 64) (l : Fin 128) (n : Fin 64)

/-- The difference of point `l` of the columns and point `r` of the rows. -/
abbrev dif (a : Vec Ideal S3x128 .f32) (b : Vec Ideal S64x3 .f32) (r : Fin 64) (l : Fin 128) : Fin 3 → EReal :=
  fun x => (a (ix2 x l) : EReal) - b (ix2 r x)
/-- A row's neighbour vector. -/
abbrev vec3 (e0 e1 e2 : Vec Ideal S64x1 .f32) (r : Fin 64) : Fin 3 → EReal := ![e0 (ix2 r 0), e1 (ix2 r 0), e2 (ix2 r 0)]

/-- Replacing a zero by zero changes nothing. -/
theorem zero_else (x : EReal) : (if x = 0 then 0 else x) = x := by
  split
  · next h => exact h.symm
  · rfl

theorem pay4_apply : k1_pay4 a b (ix2 r l) = distK (fun x => b (ix2 r x)) fun x => a (ix2 x l) := by
  pointwise [k1_pay4, k1_pay3, k1_pay2]
  rfl
theorem pay5_apply : k1_pay5 a b (ix2 r l) = dif a b r l 0 := by
  pointwise [k1_pay5, k1_pay3, k1_pay2]
theorem pay6_apply : k1_pay6 a b (ix2 r l) = dif a b r l 1 := by
  pointwise [k1_pay6, k1_pay3, k1_pay2]
theorem pay7_apply : k1_pay7 a b (ix2 r l) = dif a b r l 2 := by
  pointwise [k1_pay7, k1_pay3, k1_pay2]

theorem pay11_apply (k : Fin 32) :
    k1_pay11 (k1_pay5 a b) (k1_pay6 a b) (k1_pay7 a b) e0 e1 e2 (ix3 r l k) = angK (vec3 e0 e1 e2 r) (dif a b r l) := by
  pointwise [k1_pay11]
  simp only [pay5_apply, pay6_apply, pay7_apply, zero_else]
  rfl
theorem pay15_apply :
    k1_pay15 (k1_pay5 a b) (k1_pay6 a b) (k1_pay7 a b) e0 e1 e2 (ix2 r l) = angK (vec3 e0 e1 e2 r) (dif a b r l) := by
  pointwise [k1_pay15]
  simp only [pay5_apply, pay6_apply, pay7_apply, zero_else]
  rfl

/-- A product's entry, from the sines and cosines laid out flat. -/
abbrev embA (f : EReal) (d : Vec Ideal S1x32 .f32) (vs vc : Vec Ideal S32x64 .bf16) (n : Fin 64) : EReal :=
  embK f (fun k => d (ix2 0 k)) (fun k => vs (ix2 k n)) fun k => vc (ix2 k n)

theorem out1_apply : out1 a b e0 e1 e2 d vs vc (ix3 r l n) = embA (angK (vec3 e0 e1 e2 r) (dif a b r l)) d vs vc n := by
  pointwise [out1, k1_pay14, k1_pay13, k1_pay9, k1_pay10, k1_pay12, k1_pay8]
  simp only [pay11_apply]
  rfl

theorem out2_apply : out2 a b e0 e1 e2 d vs vc o (ix3 r l n)
    = max (o (ix3 r l n)) (embA (angK (vec3 e0 e1 e2 r) (dif a b r l)) d vs vc n) := by
  pointwise [out2, k1_pay22, k1_pay21, k1_pay20, k1_pay19, k1_pay18, k1_pay17, k1_pay16, k1_pay8]
  simp only [pay15_apply]
  rfl

theorem out3_apply : out3 a b e0 e1 e2 d vs vc o (ix3 r l n)
    = max (o (ix3 r l n)) (embA (angK (vec3 e0 e1 e2 r) (dif a b r l)) d vs vc n) := by
  pointwise [out3, y3, p3, q3, k1_pay36, k1_pay35, k1_pay34, k1_pay33, k1_pay32, k1_pay31, k1_pay30, k1_pay29, k1_pay28, k1_pay27,
    k1_pay26, k1_pay25, k1_pay24, k1_pay23, k1_pay8]
  simp only [pay5_apply, pay6_apply, pay7_apply, zero_else]
  rfl

theorem out4_apply : out4 a b d vs vc bias o (ix3 r l n)
    = o (ix3 r l n) + embA (Ideal.div (distK (fun x => b (ix2 r x)) fun x => a (ix2 x l)) (cw 0x3E4CCCCD#32)) d vs vc n + bias (ix2 0 n) := by
  pointwise [out4, k1_pay1, k1_pay43, k1_pay42, k1_pay41, k1_pay40, k1_pay39, k1_pay38, k1_pay37, k1_pay8]
  simp only [pay4_apply]
  rfl
end Pieces

/-- THE BODY AT AN ENTRY. -/
theorem embOut_apply (a : Vec Ideal S3x128 .f32) (b : Vec Ideal S64x3 .f32) (e0 e1 e2 e3 e4 e5 e6 e7 e8 : Vec Ideal S64x1 .f32)
    (d : Vec Ideal S1x32 .f32) (ws wc vs vc : Vec Ideal S32x64 .bf16) (bias : Vec Ideal S1x64 .f32) (r : Fin 64) (l : Fin 128) (n : Fin 64) :
    embOut a b e0 e1 e2 e3 e4 e5 e6 e7 e8 d ws wc vs vc bias (ix3 r l n)
      = max (max (embA (angK (vec3 e0 e1 e2 r) (dif a b r l)) d vs vc n) (embA (angK (vec3 e3 e4 e5 r) (dif a b r l)) d vs vc n))
          (embA (angK (vec3 e6 e7 e8 r) (dif a b r l)) d vs vc n)
        + embA (Ideal.div (distK (fun x => b (ix2 r x)) fun x => a (ix2 x l)) (cw 0x3E4CCCCD#32)) d ws wc n + bias (ix2 0 n) := by
  unfold embOut
  rw [out4_apply, out3_apply, out2_apply, out1_apply]

end Cert.Proof.Emb

end
-- ==== Proof.EmbArray.lean ====
/-
  The embedding call's result array at an entry, from the arrays that it finds.
-/
module

public import proofs.«01_k».proof.Proof.EmbRegion
public import proofs.«01_k».proof.Proof.EmbValue
public import Idealize.ShloMosaic.Lib.Pipeline.ValueKit

@[expose] public section

noncomputable section

namespace Cert.Proof.Emb

open Cert.KernelIdeal Cert.KernelIdeal.Gen
open Idealize.ShloMosaic
open Idealize.ShloMosaic.TcCoe

/-! ## Where each window's block lies -/

theorem at1_0 : ∀ t : Fin cfg1.N, win1_0.index t = ![0, t.val % 8] := (by decide +kernel : ∀ t : Fin grid1.N, _)
theorem at1_1 : ∀ t : Fin cfg1.N, win1_1.index t = ![t.val / 8, 0] := (by decide +kernel : ∀ t : Fin grid1.N, _)
theorem at1_2 : ∀ t : Fin cfg1.N, win1_2.index t = ![t.val / 8, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![0, 0] := (by decide +kernel : ∀ t : Fin grid1.N, _)
theorem at1_8 : ∀ t : Fin cfg1.N, win1_8.index t = ![0, 0] := (by decide +kernel : ∀ t : Fin grid1.N, _)
theorem at1_9 : ∀ t : Fin cfg1.N, win1_9.index t = ![t.val / 8, t.val % 8, 0] := (by decide +kernel : ∀ t : Fin grid1.N, _)

theorem cover1_9 : (cfg1.win 9).Covers := by decide +kernel

/-! ## The entry -/

/-- The result's entry at row point `i`, column point `j` and channel `n`, from whole arrays. -/
def cellE (p : Vec Ideal S3x1024 .f32) (q : Vec Ideal S1024x3 .f32) (ev : Vec Ideal S1024x16 .f32) (d : Vec Ideal S1x32 .f32)
    (ws wc vs vc : Vec Ideal S32x64 .bf16) (bias : Vec Ideal S1x64 .f32) (i j : Fin 1024) (n : Fin 64) : EReal :=
  max (max (embA (angK ![ev (ix2 i 0), ev (ix2 i 1), ev (ix2 i 2)] fun x => (p (ix2 x j) : EReal) - q (ix2 i x)) d vs vc n)
        (embA (angK ![ev (ix2 i 3), ev (ix2 i 4), ev (ix2 i 5)] fun x => (p (ix2 x j) : EReal) - q (ix2 i x)) d vs vc n))
      (embA (angK ![ev (ix2 i 6), ev (ix2 i 7), ev (ix2 i 8)] fun x => (p (ix2 x j) : EReal) - q (ix2 i x)) d vs vc n)
    + embA (Ideal.div (distK (fun x => q (ix2 i x)) fun x => p (ix2 x j)) (cw 0x3E4CCCCD#32)) d ws wc n + bias (ix2 0 n)

/-- The same from blocks of arrays, where the blocks' entries are the arrays' entries. -/
theorem embBlk_apply (x2 : Vec Ideal S3x128 .f32) (x3 : Vec Ideal S64x3 .f32) (x4 : Vec Ideal S64x16 .f32) (x5 : Vec Ideal S1x32 .f32)
    (x6 x7 x8 x9 : Vec Ideal S32x64 .bf16) (x10 : Vec Ideal S1x64 .f32)
    (p : Vec Ideal S3x1024 .f32) (q : Vec Ideal S1024x3 .f32) (ev : Vec Ideal S1024x16 .f32) (i j : Fin 1024) (r : Fin 64) (l : Fin 128) (n : Fin 64)
    (hp : ∀ x, x2 (ix2 x l) = p (ix2 x j)) (hq : ∀ x, x3 (ix2 r x) = q (ix2 i x)) (he : ∀ k, x4 (ix2 r k) = ev (ix2 i k)) :
    embBlk x2 x3 x4 x5 x6 x7 x8 x9 x10 (ix3 r l n) = cellE p q ev x5 x6 x7 x8 x9 x10 i j n := by
  unfold embBlk
  rw [embOut_apply]
  rw [show View.ld x2 rP = x2 from View.ld_unit_lit _ _ (by decide), show View.ld x3 rRow = x3 from View.ld_unit_lit _ _ (by decide),
    show View.ld x5 rD = x5 from View.ld_unit_lit _ _ (by decide), show View.ld x6 rW = x6 from View.ld_unit_lit _ _ (by decide),
    show View.ld x7 rW = x7 from View.ld_unit_lit _ _ (by decide), show View.ld x8 rW = x8 from View.ld_unit_lit _ _ (by decide),
    show View.ld x9 rW = x9 from View.ld_unit_lit _ _ (by decide), show View.ld x10 rB = x10 from View.ld_unit_lit _ _ (by decide)]
  simp only [View.ld_unit]
  have ed : dif x2 x3 r l = fun x => (p (ix2 x j) : EReal) - q (ix2 i x) := funext fun x => by unfold dif; rw [hp, hq]
  unfold vec3
  pointwise
  simp only [ed, hp, hq, he]
  rfl

variable (V : Cont Ideal) (c : Dev nD)

/-! A block that is its whole array. -/

theorem eblk3 (t : Fin cfg1.N) : (eblk V c 3 t : Vec Ideal S1x32 .f32) = V c main_call0_cst := by
  funext x
  show V c main_call0_cst ((win1_3.blk t).view.emb x) = V c main_call0_cst x
  refine congrArg (V c main_call0_cst) ?_
  blk_ext [at1_3]
theorem eblk4 (t : Fin cfg1.N) : (eblk V c 4 t : Vec Ideal S32x64 .bf16) = V c main_call0_v3 := by
  funext x
  show V c main_call0_v3 ((win1_4.blk t).view.emb x) = V c main_call0_v3 x
  refine congrArg (V c main_call0_v3) ?_
  blk_ext [at1_4]
theorem eblk5 (t : Fin cfg1.N) : (eblk V c 5 t : Vec Ideal S32x64 .bf16) = V c main_call0_v5 := by
  funext x
  show V c main_call0_v5 ((win1_5.blk t).view.emb x) = V c main_call0_v5 x
  refine congrArg (V c main_call0_v5) ?_
  blk_ext [at1_5]
theorem eblk6 (t : Fin cfg1.N) : (eblk V c 6 t : Vec Ideal S32x64 .bf16) = V c main_call0_v7 := by
  funext x
  show V c main_call0_v7 ((win1_6.blk t).view.emb x) = V c main_call0_v7 x
  refine congrArg (V c main_call0_v7) ?_
  blk_ext [at1_6]
theorem eblk7 (t : Fin cfg1.N) : (eblk V c 7 t : Vec Ideal S32x64 .bf16) = V c main_call0_v9 := by
  funext x
  show V c main_call0_v9 ((win1_7.blk t).view.emb x) = V c main_call0_v9 x
  refine congrArg (V c main_call0_v9) ?_
  blk_ext [at1_7]
theorem eblk8 (t : Fin cfg1.N) : (eblk V c 8 t : Vec Ideal S1x64 .f32) = V c main_call0_v11 := by
  funext x
  show V c main_call0_v11 ((win1_8.blk t).view.emb x) = V c main_call0_v11 x
  refine congrArg (V c main_call0_v11) ?_
  blk_ext [at1_8]

/-- THE RESULT'S ARRAY AT AN ENTRY. -/
theorem earr_apply (i j : Fin 1024) (n : Fin 64) :
    earr V c (ix3 i j n) = cellE (V c main_call0_v0) (V c main_v0) (V c main_call0_v1) (V c main_call0_cst) (V c main_call0_v3) (V c main_call0_v5)
      (V c main_call0_v7) (V c main_call0_v9) (V c main_call0_v11) i j n := by
  unfold earr
  rw [(edat V c).arrAt_eq_of_covers 9 (fun y => cellE (V c main_call0_v0) (V c main_v0) (V c main_call0_v1) (V c main_call0_cst) (V c main_call0_v3) (V c main_call0_v5)
      (V c main_call0_v7) (V c main_call0_v9) (V c main_call0_v11) (y 0) (y 1) (y 2)) cover1_9 fun t hf y => ?_]
  · rfl
  blk_simp
  rw [edat_after9]
  obtain ⟨r, l, n, rfl⟩ : ∃ r l n, y = ix3 (n0 := 64) (n1 := 128) (n2 := 64) r l n := ⟨y 0, y 1, y 2, eq_ix3 y⟩
  obtain ⟨i, hi, hr⟩ : ∃ i : Fin 1024, (win1_9.blk t).view.emb (ix3 r l n) 0 = i ∧ i.val = t.val / 8 * 64 + r.val := ⟨_, rfl, by blk_simp [at1_9]⟩
  obtain ⟨j, hj, hl⟩ : ∃ j : Fin 1024, (win1_9.blk t).view.emb (ix3 r l n) 1 = j ∧ j.val = t.val % 8 * 128 + l.val := ⟨_, rfl, by blk_simp [at1_9]⟩
  have hn : (win1_9.blk t).view.emb (ix3 r l n) 2 = n := Fin.ext (by blk_simp [at1_9])
  rw [hn, hi, hj]
  refine (embBlk_apply _ _ _ _ _ _ _ _ _ (V c main_call0_v0) (V c main_v0) (V c main_call0_v1) i j r l n ?_ ?_ ?_).trans ?_
  · intro x
    show V c main_call0_v0 ((win1_0.blk t).view.emb (ix2 x l)) = _
    refine congrArg (V c main_call0_v0) ?_
    blk_ext [at1_0, hl]
  · intro x
    show V c main_v0 ((win1_1.blk t).view.emb (ix2 r x)) = _
    refine congrArg (V c main_v0) ?_
    blk_ext [at1_1, hr]
  · intro x
    show V c main_call0_v1 ((win1_2.blk t).view.emb (ix2 r x)) = _
    refine congrArg (V c main_call0_v1) ?_
    blk_ext [at1_2, hr]
  · rw [eblk3, eblk4, eblk5, eblk6, eblk7, eblk8]

end Cert.Proof.Emb

end
-- ==== Proof.Select.lean ====
/-
  The repeated minimum and the sort, on one row of 1024 numbers. A round takes the first position of the row's minimum and replaces it by a
  mask; a stable sort lists the positions by value, equal values by position. While the mask is above every value of the row, the round
  after `t` others takes the position the sort puts at place `t`.
-/
module

public import Idealize.ShloMosaic.Lib.Pointwise
public import Idealize.ShloMosaic.PureOps.Ideal
public import Idealize.ShloMosaic.Lib.SortFacts
public import Idealize.ShloMosaic.Lib.WordArith

@[expose] public section

noncomputable section

namespace Cert.Proof.Emb

open Idealize.ShloMosaic

/-! ## A fold that one member absorbs -/

/-- If a member absorbs every member and the start, the fold is that member. -/
theorem fold_absorb {α β : Type} [DecidableEq α] (op : β → β → β) [Std.Commutative op] [Std.Associative op] (b : β) (f : α → β) (s : Finset α)
    (p : α) (hp : p ∈ s) (hf : ∀ x, op (f p) (f x) = f p) (hb : op (f p) b = f p) : s.fold op b f = f p := by
  have key : ∀ t : Finset α, op (f p) (t.fold op b f) = f p := by
    intro t
    induction t using Finset.induction_on with
    | empty => exact hb
    | insert x t hx ih =>
      rw [Finset.fold_insert hx, ← Std.Associative.assoc (op := op), hf, ih]
  rw [← Finset.insert_erase hp, Finset.fold_insert (Finset.notMem_erase p s)]
  exact key _

/-! ## The first position of the minimum -/

/-- `p` is the first position at which `w` is least. -/
def IsPick {n : ℕ} (w : Fin n → EReal) (p : Fin n) : Prop := ∀ x, w p ≤ w x ∧ (w x = w p → p ≤ x)

/-- The row's minimum, folded from the word of +∞. -/
def rowMin (w : Fin 1024 → EReal) : EReal := Finset.univ.fold min (Ideal.ofBits FTy.f32 2139095040#32) w

/-- The least column number at which the minimum is attained, as a word. -/
def pickW (w : Fin 1024 → EReal) : BitVec 32 :=
  Finset.univ.fold IntOp.minsi 2147483647#32 fun x : Fin 1024 => if w x = rowMin w then BitVec.ofNat 32 x.val else 1024#32

theorem top_word : Ideal.ofBits FTy.f32 2139095040#32 = ⊤ := by simp [Ideal.ofBits, Ideal.ieee]

theorem rowMin_of_pick (w : Fin 1024 → EReal) (p : Fin 1024) (h : IsPick w p) : rowMin w = w p := by
  unfold rowMin
  refine fold_absorb min _ w _ p (Finset.mem_univ p) (fun x => min_eq_left (h x).1) ?_
  rw [top_word]
  exact min_eq_left le_top

theorem minsi_small (a b : BitVec 32) (ha : a.toNat < 2 ^ 31) (hb : b.toNat < 2 ^ 31) (h : a.toNat ≤ b.toNat) : IntOp.minsi a b = a := by
  apply BitVec.eq_of_toNat_eq
  rw [WordArith.toNat_minsi_of_lt a b ha hb]
  exact Nat.min_eq_left h

theorem toNat_col (x : Fin 1024) : (BitVec.ofNat 32 x.val).toNat = x.val := by
  rw [BitVec.toNat_ofNat]
  have := x.isLt
  omega

theorem pickW_of_pick (w : Fin 1024 → EReal) (p : Fin 1024) (h : IsPick w p) : pickW w = BitVec.ofNat 32 p.val := by
  have hp := p.isLt
  have e : (if w p = rowMin w then BitVec.ofNat 32 p.val else 1024#32) = BitVec.ofNat 32 p.val := if_pos (rowMin_of_pick w p h).symm
  unfold pickW
  refine (fold_absorb IntOp.minsi _ (fun x : Fin 1024 => if w x = rowMin w then BitVec.ofNat 32 x.val else 1024#32) _ p (Finset.mem_univ p) ?_ ?_).trans e
  · intro x
    show IntOp.minsi (if w p = rowMin w then BitVec.ofNat 32 p.val else 1024#32) _ = (if w p = rowMin w then BitVec.ofNat 32 p.val else 1024#32)
    rw [e]
    have hx := x.isLt
    by_cases c : w x = rowMin w
    · rw [if_pos c]
      refine minsi_small _ _ ?_ ?_ ?_ <;> (try simp only [toNat_col])
      · omega
      · omega
      · exact (h x).2 (c.trans (rowMin_of_pick w p h))
    · rw [if_neg c]
      refine minsi_small _ _ ?_ ?_ ?_ <;> (try simp only [toNat_col])
      · omega
      · decide
      · show p.val ≤ 1024
        omega
  · show IntOp.minsi (if w p = rowMin w then BitVec.ofNat 32 p.val else 1024#32) _ = (if w p = rowMin w then BitVec.ofNat 32 p.val else 1024#32)
    rw [e]
    refine minsi_small _ _ ?_ ?_ ?_ <;> (try simp only [toNat_col])
    · omega
    · decide
    · show p.val ≤ 2147483647
      omega

/-- A column number is that of `p` exactly at `p`. -/
theorem col_eq_iff (x p : Fin 1024) : BitVec.ofNat 32 x.val = BitVec.ofNat 32 p.val ↔ x = p := by
  constructor
  · intro h
    have := congrArg BitVec.toNat h
    rw [toNat_col, toNat_col] at this
    exact Fin.ext this
  · rintro rfl; rfl

/-- A sum of one selected member. -/
theorem sum_pick (f : Fin 1024 → EReal) (p : Fin 1024) :
    (∑ x : Fin 1024, if BitVec.ofNat 32 x.val = BitVec.ofNat 32 p.val then f x else 0) = f p := by
  simp only [col_eq_iff]
  rw [Finset.sum_ite_eq' Finset.univ p f, if_pos (Finset.mem_univ p)]

/-- One round: the picked position masked. -/
def masked (M : EReal) (w : Fin 1024 → EReal) : Fin 1024 → EReal := fun l => if BitVec.ofNat 32 l.val = pickW w then M else w l

/-! ## A stable sort of positions -/

section Order
variable {n : ℕ} (d : Fin n → EReal)

/-- The order the sort lists by: value, then position. -/
def Before (a b : Fin n) : Prop := d a < d b ∨ (d a = d b ∧ a < b)

theorem Before.trans {a b c : Fin n} (h : Before d a b) (k : Before d b c) : Before d a c := by
  rcases h with h | ⟨h, h'⟩ <;> rcases k with k | ⟨k, k'⟩
  · exact .inl (h.trans k)
  · exact .inl (k ▸ h)
  · exact .inl (h ▸ k)
  · exact .inr ⟨h.trans k, h'.trans k'⟩

theorem pairwise_insert (R : Fin n → Fin n → Bool) (hR : ∀ a b, R a b = true ↔ d a < d b) (a : Fin n) (l : List (Fin n))
    (ha : ∀ b ∈ l, a < b) (hl : l.Pairwise (Before d)) : (insertBefore R a l).Pairwise (Before d) := by
  induction l with
  | nil => exact List.pairwise_singleton _ _
  | cons b l ih =>
    unfold insertBefore
    rw [List.pairwise_cons] at hl
    split
    · next h =>
      rw [List.pairwise_cons]
      refine ⟨fun x hx => ?_, ih (fun x hx => ha x (List.mem_cons_of_mem _ hx)) hl.2⟩
      rcases List.mem_cons.mp ((perm_insertBefore R a l).mem_iff.mp hx) with rfl | hx
      · exact .inl ((hR b x).mp h)
      · exact hl.1 x hx
    · next h =>
      have hab : Before d a b := by
        have h' : ¬ d b < d a := fun c => h ((hR b a).mpr c)
        rcases lt_or_eq_of_le (not_lt.mp h') with c | c
        · exact .inl c
        · exact .inr ⟨c, ha b (List.mem_cons_self ..)⟩
      rw [List.pairwise_cons, List.pairwise_cons]
      refine ⟨fun x hx => ?_, hl⟩
      rcases List.mem_cons.mp hx with rfl | hx
      · exact hab
      · exact Before.trans d hab (hl.1 x hx)

theorem pairwise_sort (R : Fin n → Fin n → Bool) (hR : ∀ a b, R a b = true ↔ d a < d b) (l : List (Fin n))
    (h : l.Pairwise (· < ·)) : (stableSort R l).Pairwise (Before d) := by
  induction l with
  | nil => exact List.Pairwise.nil
  | cons a l ih =>
    unfold stableSort
    rw [List.pairwise_cons] at h
    exact pairwise_insert d R hR a _ (fun b hb => h.1 b ((perm_stableSort R l).mem_iff.mp hb)) (ih h.2)

/-- An earlier place of the sort holds a position that comes before. -/
theorem sortedFrom_before (R : Fin n → Fin n → Bool) (hR : ∀ a b, R a b = true ↔ d a < d b) (i j : Fin n) (hij : i < j) :
    Before d (sortedFrom R i) (sortedFrom R j) := by
  have hp := List.pairwise_iff_get.mp (pairwise_sort d R hR (List.finRange n) (List.pairwise_lt_finRange n))
  exact hp _ _ hij

/-- The values with the positions at the first `t` places of the sort masked. -/
def maskedAt (M : EReal) (σ : Fin n → Fin n) (t : ℕ) : Fin n → EReal := fun x => if ∃ j : Fin n, j.val < t ∧ σ j = x then M else d x

/-- The position at place `t` is the first minimum once the earlier places are masked. -/
theorem pick_maskedAt (M : EReal) (hM : ∀ x, d x < M) (R : Fin n → Fin n → Bool) (hR : ∀ a b, R a b = true ↔ d a < d b) (t : Fin n) :
    IsPick (maskedAt d M (sortedFrom R) t.val) (sortedFrom R t) := by
  have hin := sortedFrom_injective R
  have e : maskedAt d M (sortedFrom R) t.val (sortedFrom R t) = d (sortedFrom R t) := by
    refine if_neg ?_
    rintro ⟨j, hj, he⟩
    have := congrArg Fin.val (hin he)
    omega
  intro x
  rw [e]
  by_cases c : ∃ j : Fin n, j.val < t.val ∧ sortedFrom R j = x
  · have ex : maskedAt d M (sortedFrom R) t.val x = M := if_pos c
    rw [ex]
    exact ⟨(hM _).le, fun h => absurd (hM (sortedFrom R t)) (by rw [h]; exact lt_irrefl _)⟩
  · have ex : maskedAt d M (sortedFrom R) t.val x = d x := if_neg c
    rw [ex]
    obtain ⟨j, rfl⟩ := sortedFrom_surjective R x
    have hj : t.val ≤ j.val := by
      by_contra h
      exact c ⟨j, by omega, rfl⟩
    rcases Nat.lt_or_eq_of_le hj with h | h
    · rcases sortedFrom_before d R hR t j h with b | ⟨b, b'⟩
      · exact ⟨b.le, fun q => absurd b (by rw [q]; exact lt_irrefl _)⟩
      · exact ⟨b.le, fun _ => b'.le⟩
    · rw [← Fin.ext h]
      exact ⟨le_refl _, fun _ => le_refl _⟩

end Order

section Rounds
variable (d : Fin 1024 → EReal) (M : EReal) (hM : ∀ x, d x < M) (R : Fin 1024 → Fin 1024 → Bool) (hR : ∀ a b, R a b = true ↔ d a < d b)

theorem maskedAt_zero : maskedAt d M (sortedFrom R) 0 = d := by
  funext x
  exact if_neg (by rintro ⟨j, hj, -⟩; omega)

include hM hR

theorem pickW_maskedAt (t : Fin 1024) : pickW (maskedAt d M (sortedFrom R) t.val) = BitVec.ofNat 32 (sortedFrom R t).val :=
  pickW_of_pick _ _ (pick_maskedAt d M hM R hR t)

theorem masked_maskedAt (t : Fin 1024) : masked M (maskedAt d M (sortedFrom R) t.val) = maskedAt d M (sortedFrom R) (t.val + 1) := by
  funext x
  unfold masked
  rw [pickW_maskedAt d M hM R hR t]
  simp only [col_eq_iff]
  by_cases c : x = sortedFrom R t
  · rw [if_pos c]
    exact (if_pos ⟨t, by omega, c.symm⟩).symm
  · rw [if_neg c]
    unfold maskedAt
    refine if_congr ⟨fun ⟨j, hj, e⟩ => ⟨j, by omega, e⟩, fun ⟨j, hj, e⟩ => ⟨j, ?_, e⟩⟩ rfl rfl
    rcases Nat.lt_or_eq_of_le (Nat.lt_succ_iff.mp hj) with h | h
    · exact h
    · exact absurd (by rw [← e, Fin.ext h]) c

/-- THE ROUNDS ARE THE SORT: the rounds after one, two and three others pick the positions at places 1, 2 and 3. -/
theorem rounds_eq_sort :
    pickW (masked M d) = BitVec.ofNat 32 (sortedFrom R 1).val
      ∧ pickW (masked M (masked M d)) = BitVec.ofNat 32 (sortedFrom R 2).val
      ∧ pickW (masked M (masked M (masked M d))) = BitVec.ofNat 32 (sortedFrom R 3).val := by
  have h0 := masked_maskedAt d M hM R hR 0
  have h1 := masked_maskedAt d M hM R hR 1
  have h2 := masked_maskedAt d M hM R hR 2
  have e0 : masked M d = maskedAt d M (sortedFrom R) 1 := by
    have := h0
    rwa [show ((0 : Fin 1024).val) = 0 from rfl, maskedAt_zero] at this
  have e1 : masked M (maskedAt d M (sortedFrom R) 1) = maskedAt d M (sortedFrom R) 2 := h1
  have e2 : masked M (maskedAt d M (sortedFrom R) 2) = maskedAt d M (sortedFrom R) 3 := h2
  rw [e0, e1, e2]
  exact ⟨pickW_maskedAt d M hM R hR 1, pickW_maskedAt d M hM R hR 2, pickW_maskedAt d M hM R hR 3⟩
end Rounds

end Cert.Proof.Emb

end
-- ==== Proof.KnnValue.lean ====
/-
  What the neighbour kernel's body computes over the extended reals: its working rows are the row of distances after one, two and three
  rounds, and its nine columns are the coordinates of the picked points less those of the row's own.
-/
module

public import proofs.«01_k».proof.Proof.KnnBody
public import proofs.«01_k».proof.Proof.EmbValue
public import proofs.«01_k».proof.Proof.Select

@[expose] public section

noncomputable section

namespace Cert.Proof.Emb

open Cert.KernelIdeal Cert.KernelIdeal.Gen
open Idealize.ShloMosaic

/-- The mask's value. -/
abbrev maskV : EReal := cw 2137108966#32

theorem sel_eq (x y : BitVec 32) (u v : EReal) : Scalar.select (IntOp.cmpi CmpIPredicate.eq x y) u v = if x = y then u else v := by
  unfold Scalar.select IntOp.cmpi
  by_cases h : x = y
  · subst h; simp
  · have e : (x == y) = false := beq_eq_false_iff_ne.mpr h
    simp [h, e]

section Rows
variable (a : Vec Ideal S3x1024 .f32) (b : Vec Ideal S64x3 .f32) (r : Fin 64)

/-- The row of distances from point `r` of the rows. -/
def rowD : Fin 1024 → EReal := fun l => distK (fun x => b (ix2 r x)) fun x => a (ix2 x l)

theorem kDist_apply (l : Fin 1024) : kDist a b (ix2 r l) = rowD a b r l := by
  pointwise [kDist, k0_pay13, k0_pay5, k0_pay6]
  rfl

theorem kMask_apply (l : Fin 1024) : kMask a b (ix2 r l) = IntOp.cmpi CmpIPredicate.eq (BitVec.ofNat 32 l.val) (pickW (rowD a b r)) := by
  pointwise [kMask, k0_pay14]
  have e : ∀ x : Fin 1024, k0_pay13 a b (ix2 r x) = rowD a b r x := fun x => kDist_apply a b r x
  simp only [e]
  rfl

theorem pay16_apply (l : Fin 1024) : k0_pay16 (kDist a b) (kMask a b) k0_pay15 (ix2 r l) = masked maskV (rowD a b r) l := by
  pointwise [k0_pay16, k0_pay15]
  rw [kMask_apply, kDist_apply, sel_eq]
  rfl

theorem pay17_apply : k0_pay17 (kDist a b) colIx (kMask a b) k0_pay15 (ix2 r 0) = pickW (masked maskV (rowD a b r)) := by
  pointwise [k0_pay17]
  simp only [pay16_apply]
  rfl

theorem kWork_apply (l : Fin 1024) : kWork a b (ix2 r l) = masked maskV (masked maskV (rowD a b r)) l := by
  pointwise [kWork, k0_pay22]
  rw [pay17_apply, pay16_apply, sel_eq]
  rfl

theorem pay24_apply : k0_pay24 colIx (kWork a b) (kMin a b) (ix2 r 0) = pickW (masked maskV (masked maskV (rowD a b r))) := by
  pointwise [k0_pay24, kMin, k0_pay23]
  have e : ∀ x : Fin 1024, k0_pay22 (kDist a b) colIx (kMask a b) k0_pay15 (ix2 r x) = masked maskV (masked maskV (rowD a b r)) x :=
    fun x => kWork_apply a b r x
  simp only [e]
  rfl

theorem last_apply : Finset.univ.fold IntOp.minsi 2147483647#32 (fun x : Fin 1024 => Scalar.select (kLast a b (ix2 r x)) (BitVec.ofNat 32 x.val) 1024#32)
    = pickW (masked maskV (masked maskV (masked maskV (rowD a b r)))) := by
  pointwise [kLast, k0_pay29]
  simp only [pay24_apply, kWork_apply, sel_eq]
  rfl

variable (p : Fin 1024)

theorem kc0_apply (h : pickW (masked maskV (rowD a b r)) = BitVec.ofNat 32 p.val) : kc0 a b (ix2 r 0) = (a (ix2 0 p) : EReal) - b (ix2 r 0) := by
  pointwise [kc0, k0_pay19, k0_pay18, k0_pay7, k0_pay10, k0_pay5, k0_pay6]
  simp only [pay17_apply, h, sel_eq]
  rw [sum_pick (fun x => a (ix2 0 x)) p]
theorem kc1_apply (h : pickW (masked maskV (rowD a b r)) = BitVec.ofNat 32 p.val) : kc1 a b (ix2 r 0) = (a (ix2 1 p) : EReal) - b (ix2 r 1) := by
  pointwise [kc1, k0_pay20, k0_pay18, k0_pay8, k0_pay11, k0_pay5, k0_pay6]
  simp only [pay17_apply, h, sel_eq]
  rw [sum_pick (fun x => a (ix2 1 x)) p]
theorem kc2_apply (h : pickW (masked maskV (rowD a b r)) = BitVec.ofNat 32 p.val) : kc2 a b (ix2 r 0) = (a (ix2 2 p) : EReal) - b (ix2 r 2) := by
  pointwise [kc2, k0_pay21, k0_pay18, k0_pay9, k0_pay12, k0_pay5, k0_pay6]
  simp only [pay17_apply, h, sel_eq]
  rw [sum_pick (fun x => a (ix2 2 x)) p]

theorem kc3_apply (h : pickW (masked maskV (masked maskV (rowD a b r))) = BitVec.ofNat 32 p.val) :
    kc3 a b (ix2 r 0) = (a (ix2 0 p) : EReal) - b (ix2 r 0) := by
  pointwise [kc3, k0_pay26, k0_pay25, k0_pay7, k0_pay10, k0_pay5, k0_pay6]
  simp only [pay24_apply, h, sel_eq]
  rw [sum_pick (fun x => a (ix2 0 x)) p]
theorem kc4_apply (h : pickW (masked maskV (masked maskV (rowD a b r))) = BitVec.ofNat 32 p.val) :
    kc4 a b (ix2 r 0) = (a (ix2 1 p) : EReal) - b (ix2 r 1) := by
  pointwise [kc4, k0_pay27, k0_pay25, k0_pay8, k0_pay11, k0_pay5, k0_pay6]
  simp only [pay24_apply, h, sel_eq]
  rw [sum_pick (fun x => a (ix2 1 x)) p]
theorem kc5_apply (h : pickW (masked maskV (masked maskV (rowD a b r))) = BitVec.ofNat 32 p.val) :
    kc5 a b (ix2 r 0) = (a (ix2 2 p) : EReal) - b (ix2 r 2) := by
  pointwise [kc5, k0_pay28, k0_pay25, k0_pay9, k0_pay12, k0_pay5, k0_pay6]
  simp only [pay24_apply, h, sel_eq]
  rw [sum_pick (fun x => a (ix2 2 x)) p]

theorem kc6_apply (h : pickW (masked maskV (masked maskV (masked maskV (rowD a b r)))) = BitVec.ofNat 32 p.val) :
    kc6 a b (ix2 r 0) = (a (ix2 0 p) : EReal) - b (ix2 r 0) := by
  pointwise [kc6, k0_pay2, k0_pay1, k0_pay7, k0_pay10, k0_pay5, k0_pay6]
  simp only [last_apply, h, sel_eq]
  rw [sum_pick (fun x => a (ix2 0 x)) p]
theorem kc7_apply (h : pickW (masked maskV (masked maskV (masked maskV (rowD a b r)))) = BitVec.ofNat 32 p.val) :
    kc7 a b (ix2 r 0) = (a (ix2 1 p) : EReal) - b (ix2 r 1) := by
  pointwise [kc7, k0_pay3, k0_pay1, k0_pay8, k0_pay11, k0_pay5, k0_pay6]
  simp only [last_apply, h, sel_eq]
  rw [sum_pick (fun x => a (ix2 1 x)) p]
theorem kc8_apply (h : pickW (masked maskV (masked maskV (masked maskV (rowD a b r)))) = BitVec.ofNat 32 p.val) :
    kc8 a b (ix2 r 0) = (a (ix2 2 p) : EReal) - b (ix2 r 2) := by
  pointwise [kc8, k0_pay4, k0_pay1, k0_pay9, k0_pay12, k0_pay5, k0_pay6]
  simp only [last_apply, h, sel_eq]
  rw [sum_pick (fun x => a (ix2 2 x)) p]
end Rows

end Cert.Proof.Emb

end
-- ==== Proof.KnnArray.lean ====
/-
  The neighbour call's array at an entry: its first nine columns are the coordinates of the three picked points less the row point's own.
-/
module

public import proofs.«01_k».proof.Proof.KnnRegion
public import proofs.«01_k».proof.Proof.KnnValue
public import Idealize.ShloMosaic.Lib.Pipeline.ValueKit

@[expose] public section

noncomputable section

namespace Cert.Proof.Emb

open Cert.KernelIdeal Cert.KernelIdeal.Gen
open Idealize.ShloMosaic
open Idealize.ShloMosaic.TcCoe

theorem at0_0 : ∀ t : Fin cfg0.N, win0_0.index t = ![0, 0] := (by decide +kernel : ∀ t : Fin grid0.N, _)
theorem at0_1 : ∀ t : Fin cfg0.N, win0_1.index t = ![t.val, 0] := (by decide +kernel : ∀ t : Fin grid0.N, _)
theorem at0_2 : ∀ t : Fin cfg0.N, win0_2.index t = ![t.val, 0] := (by decide +kernel : ∀ t : Fin grid0.N, _)
theorem cover0_2 : (cfg0.win 2).Covers := by decide +kernel

/-- The distances from row point `i`, from whole arrays. -/
def rowW (a : Vec Ideal S3x1024 .f32) (q : Vec Ideal S1024x3 .f32) (i : Fin 1024) : Fin 1024 → EReal :=
  fun l => distK (fun x => q (ix2 i x)) fun x => a (ix2 x l)

/-- What an entry of the array is held to. -/
structure Nine (a : Vec Ideal S3x1024 .f32) (q : Vec Ideal S1024x3 .f32) (i : Fin 1024) (k : Fin 16) (v : EReal) : Prop where
  one : ∀ (p : Fin 1024) (x : Fin 3), pickW (masked maskV (rowW a q i)) = BitVec.ofNat 32 p.val → k.val = x.val → v = (a (ix2 x p) : EReal) - q (ix2 i x)
  two : ∀ (p : Fin 1024) (x : Fin 3), pickW (masked maskV (masked maskV (rowW a q i))) = BitVec.ofNat 32 p.val → k.val = 3 + x.val →
    v = (a (ix2 x p) : EReal) - q (ix2 i x)
  three : ∀ (p : Fin 1024) (x : Fin 3), pickW (masked maskV (masked maskV (masked maskV (rowW a q i)))) = BitVec.ofNat 32 p.val → k.val = 6 + x.val →
    v = (a (ix2 x p) : EReal) - q (ix2 i x)

/-! A block's columns, from whole arrays. -/

section Cols
variable (a : Vec Ideal S3x1024 .f32) (b : Vec Ideal S64x3 .f32) (q : Vec Ideal S1024x3 .f32) (X : Vec Ideal S64x16 .f32) (h : KnnCols a b X)
  (r : Fin 64) (i : Fin 1024) (hb : ∀ x, b (ix2 r x) = q (ix2 i x))
include h

theorem col0 : X (ix2 r 0) = kc0 a b (ix2 r 0) := by
  have e := congrFun h.c0 (ix2 r 0)
  rw [View.ld_unit] at e
  rw [← e]
  pointwise
theorem col1 : X (ix2 r 1) = kc1 a b (ix2 r 0) := by
  have e := congrFun h.c1 (ix2 r 0)
  rw [View.ld_unit] at e
  rw [← e]
  pointwise
theorem col2 : X (ix2 r 2) = kc2 a b (ix2 r 0) := by
  have e := congrFun h.c2 (ix2 r 0)
  rw [View.ld_unit] at e
  rw [← e]
  pointwise
theorem col3 : X (ix2 r 3) = kc3 a b (ix2 r 0) := by
  have e := congrFun h.c3 (ix2 r 0)
  rw [View.ld_unit] at e
  rw [← e]
  pointwise
theorem col4 : X (ix2 r 4) = kc4 a b (ix2 r 0) := by
  have e := congrFun h.c4 (ix2 r 0)
  rw [View.ld_unit] at e
  rw [← e]
  pointwise
theorem col5 : X (ix2 r 5) = kc5 a b (ix2 r 0) := by
  have e := congrFun h.c5 (ix2 r 0)
  rw [View.ld_unit] at e
  rw [← e]
  pointwise
theorem col6 : X (ix2 r 6) = kc6 a b (ix2 r 0) := by
  have e := congrFun h.c6 (ix2 r 0)
  rw [View.ld_unit] at e
  rw [← e]
  pointwise
theorem col7 : X (ix2 r 7) = kc7 a b (ix2 r 0) := by
  have e := congrFun h.c7 (ix2 r 0)
  rw [View.ld_unit] at e
  rw [← e]
  pointwise
theorem col8 : X (ix2 r 8) = kc8 a b (ix2 r 0) := by
  have e := congrFun h.c8 (ix2 r 0)
  rw [View.ld_unit] at e
  rw [← e]
  pointwise

include hb

theorem rowD_eq : rowD a b r = rowW a q i := by
  unfold rowD rowW
  exact funext fun l => congrArg (fun f => distK f fun x => a (ix2 x l)) (funext fun x => hb x)

theorem nine_of (k : Fin 16) : Nine a q i k (X (ix2 r k)) := by
  refine ⟨fun p x hp hk => ?_, fun p x hp hk => ?_, fun p x hp hk => ?_⟩ <;> rw [← rowD_eq a b q X h r i hb] at hp <;> fin_cases x
  · obtain rfl : k = 0 := Fin.ext hk
    rw [col0 a b X h r, kc0_apply a b r p hp, hb]
    rfl
  · obtain rfl : k = 1 := Fin.ext hk
    rw [col1 a b X h r, kc1_apply a b r p hp, hb]
    rfl
  · obtain rfl : k = 2 := Fin.ext hk
    rw [col2 a b X h r, kc2_apply a b r p hp, hb]
    rfl
  · obtain rfl : k = 3 := Fin.ext hk
    rw [col3 a b X h r, kc3_apply a b r p hp, hb]
    rfl
  · obtain rfl : k = 4 := Fin.ext hk
    rw [col4 a b X h r, kc4_apply a b r p hp, hb]
    rfl
  · obtain rfl : k = 5 := Fin.ext hk
    rw [col5 a b X h r, kc5_apply a b r p hp, hb]
    rfl
  · obtain rfl : k = 6 := Fin.ext hk
    rw [col6 a b X h r, kc6_apply a b r p hp, hb]
    rfl
  · obtain rfl : k = 7 := Fin.ext hk
    rw [col7 a b X h r, kc7_apply a b r p hp, hb]
    rfl
  · obtain rfl : k = 8 := Fin.ext hk
    rw [col8 a b X h r, kc8_apply a b r p hp, hb]
    rfl

end Cols

theorem ld_pts (x : Vec Ideal S3x1024 .f32) : View.ld x rPts = x := View.ld_unit_lit _ _ (by decide)
theorem ld_row (x : Vec Ideal S64x3 .f32) : View.ld x rRow = x := View.ld_unit_lit _ _ (by decide)

variable (V : Cont Ideal) (c : Dev nD)

theorem kblk0 (t : Fin cfg0.N) : (kblk V c 0 t : Vec Ideal S3x1024 .f32) = V c main_call0_v0 := by
  funext x
  show V c main_call0_v0 ((win0_0.blk t).view.emb x) = V c main_call0_v0 x
  refine congrArg (V c main_call0_v0) ?_
  blk_ext [at0_0]

/-- THE ARRAY AT AN ENTRY. -/
theorem karr_nine (X : Blocks Ideal) (hX : ∀ t, kcols V c t (X t)) (i : Fin 1024) (k : Fin 16) :
    Nine (V c main_call0_v0) (V c main_v0) i k (karr V c X (ix2 i k)) := by
  unfold karr
  refine (kdat V c X).arrAt_forall_of_covers 2 (fun y v => Nine (V c main_call0_v0) (V c main_v0) (y 0) (y 1) v) cover0_2 (fun t hf y => ?_) (ix2 i k)
  blk_simp
  rw [kdat_after2]
  obtain ⟨r, k, rfl⟩ : ∃ r k, y = ix2 (n0 := 64) (n1 := 16) r k := ⟨y 0, y 1, eq_ix2 y⟩
  obtain ⟨i, hi, hr⟩ : ∃ i : Fin 1024, (win0_2.blk t).view.emb (ix2 r k) 0 = i ∧ i.val = t.val * 64 + r.val := ⟨_, rfl, by blk_simp [at0_2]⟩
  have hn : (win0_2.blk t).view.emb (ix2 r k) 1 = k := Fin.ext (by blk_simp [at0_2])
  rw [hn, hi]
  have h := hX t
  unfold kcols at h
  rw [ld_pts, ld_row, kblk0] at h
  refine nine_of _ _ _ (X t) h r i (fun x => ?_) k
  show V c main_v0 ((win0_1.blk t).view.emb (ix2 r x)) = _
  refine congrArg (V c main_v0) ?_
  blk_ext [at0_1, hr]

end Cert.Proof.Emb

end
-- ==== Proof.HostValue.lean ====
/-
  What the operations around the two calls leave: the points and their transpose, the frequencies, the halves of the weights, the
  sum of the biases; and the result, which is the second call's array with one axis more.
-/
module

public import proofs.«01_k».proof.Proof.Run
public import proofs.«01_k».proof.Proof.EmbArray
public import proofs.«01_k».proof.Proof.KnnArray

@[expose] public section

noncomputable section

namespace Cert.Proof.Emb

open Cert.KernelIdeal Cert.KernelIdeal.Gen
open Idealize.ShloMosaic
open Idealize.ShloMosaic.TcCoe Idealize.ShloMosaic.Tactic

variable (m : (ℓ : Loc nD τ sig) → Buf (Elt Ideal) ℓ) (X : Blocks Ideal) (c : Dev nD)

/-! The arguments at an entry. -/

def aP (i : Fin 1024) (x : Fin 3) : EReal := (m ((c : Thread nD τ).loc main_arg0) : Vec Ideal S1x1024x3 .f32) (ix3 0 i x)
def aWd (k n : Fin 64) : EReal := (m ((c : Thread nD τ).loc main_arg1) : Vec Ideal S64x64 .f32) (ix2 k n)
def aBd (n : Fin 64) : EReal := (m ((c : Thread nD τ).loc main_arg2) : Vec Ideal S64 .f32) (ix1 n)
def aWa (k n : Fin 64) : EReal := (m ((c : Thread nD τ).loc main_arg3) : Vec Ideal S64x64 .f32) (ix2 k n)
def aBa (n : Fin 64) : EReal := (m ((c : Thread nD τ).loc main_arg4) : Vec Ideal S64 .f32) (ix1 n)

/-! Before the first call. -/

theorem V2_points (i : Fin 1024) (x : Fin 3) : (V2 m c main_v0 : Vec Ideal S1024x3 .f32) (ix2 i x) = aP m c i x := by
  rw [V2_of m c main_v0 (by decide)]
  show (StableHlo.after hostOps0 (V0 m c) (Proc.devRef .tc main_v0) : Vec Ideal S1024x3 .f32) (ix2 i x) = _
  after_results_simp
  pointwise
  rfl

theorem V2_trans (x : Fin 3) (i : Fin 1024) : (V2 m c main_call0_v0 : Vec Ideal S3x1024 .f32) (ix2 x i) = aP m c i x := by
  show (StableHlo.after hostOps0_1 (V1 m c) (Proc.devRef .tc main_call0_v0) : Vec Ideal S3x1024 .f32) (ix2 x i) = _
  after_results_simp
  simp -implicitDefEqProofs only [StableHlo.TRef.toBuf, StableHlo.TRef.ofBuf, cast_cast, cast_eq]
  pointwise
  rfl

theorem V2_freq (k : Fin 32) : (V2 m c main_call0_cst : Vec Ideal S1x32 .f32) (ix2 0 k) = cw (lit0 k) := by
  show (StableHlo.after hostOps0_1 (V1 m c) (Proc.devRef .tc main_call0_cst) : Vec Ideal S1x32 .f32) (ix2 0 k) = _
  after_results_simp
  simp -implicitDefEqProofs only [StableHlo.TRef.toBuf, StableHlo.TRef.ofBuf, cast_cast, cast_eq]
  show cw (lit0 (S1x32.rowMajor (ix2 0 k))) = cw (lit0 k)
  have h : ∀ k : Fin 32, (S1x32.rowMajor (ix2 0 k)).val = k.val := by decide +kernel
  exact congrArg (fun y => cw (lit0 y)) (Fin.ext (h k))

/-! Between the calls. -/

theorem S4_keep (r : Ref sig .tc) (h1 : r ∉ hostOps1_W) (hk : r ≠ main_call0_v1) : S4 m X c r = V2 m c r :=
  (StableHlo.after_of_writes_sub hostOps1 _ hostOps1_writes h1).trans (afterK_of (V2 m) X c r hk)

theorem S3_arg (r : Ref sig .tc) (hk : r ≠ main_call0_v1) (h01 : r ∉ hostOps0_1_W) (h0 : r ∉ hostOps0_W) :
    S3 m X c r = m ((c : Thread nD τ).loc r) :=
  (afterK_of (V2 m) X c r hk).trans ((V2_of m c r h01).trans (V1_of m c r h0))

theorem S4_vecs : S4 m X c main_call0_v1 = karr (contOf (V2 m)) c X :=
  (StableHlo.after_of_writes_sub hostOps1 _ hostOps1_writes (by decide)).trans (afterK_self (V2 m) X c)

theorem S4_wds (k : Fin 32) (n : Fin 64) : (S4 m X c main_call0_v3 : Vec Ideal S32x64 .bf16) (ix2 k n) = aWd m c ⟨k.val, by omega⟩ n := by
  have e := S3_arg m X c main_arg1 (by decide) (by decide) (by decide)
  unfold S4
  generalize S3 m X c = V at e ⊢
  after_results_simp
  simp -implicitDefEqProofs only [StableHlo.TRef.toBuf, StableHlo.TRef.ofBuf, cast_cast, cast_eq]
  rw [e]
  pointwise
  rfl
theorem S4_wdc (k : Fin 32) (n : Fin 64) : (S4 m X c main_call0_v5 : Vec Ideal S32x64 .bf16) (ix2 k n) = aWd m c ⟨32 + k.val, by omega⟩ n := by
  have e := S3_arg m X c main_arg1 (by decide) (by decide) (by decide)
  unfold S4
  generalize S3 m X c = V at e ⊢
  after_results_simp
  simp -implicitDefEqProofs only [StableHlo.TRef.toBuf, StableHlo.TRef.ofBuf, cast_cast, cast_eq]
  rw [e]
  pointwise
  rfl
theorem S4_was (k : Fin 32) (n : Fin 64) : (S4 m X c main_call0_v7 : Vec Ideal S32x64 .bf16) (ix2 k n) = aWa m c ⟨k.val, by omega⟩ n := by
  have e := S3_arg m X c main_arg3 (by decide) (by decide) (by decide)
  unfold S4
  generalize S3 m X c = V at e ⊢
  after_results_simp
  simp -implicitDefEqProofs only [StableHlo.TRef.toBuf, StableHlo.TRef.ofBuf, cast_cast, cast_eq]
  rw [e]
  pointwise
  rfl
theorem S4_wac (k : Fin 32) (n : Fin 64) : (S4 m X c main_call0_v9 : Vec Ideal S32x64 .bf16) (ix2 k n) = aWa m c ⟨32 + k.val, by omega⟩ n := by
  have e := S3_arg m X c main_arg3 (by decide) (by decide) (by decide)
  unfold S4
  generalize S3 m X c = V at e ⊢
  after_results_simp
  simp -implicitDefEqProofs only [StableHlo.TRef.toBuf, StableHlo.TRef.ofBuf, cast_cast, cast_eq]
  rw [e]
  pointwise
  rfl
theorem S4_bias (n : Fin 64) : (S4 m X c main_call0_v11 : Vec Ideal S1x64 .f32) (ix2 0 n) = aBd m c n + aBa m c n := by
  have e := S3_arg m X c main_arg2 (by decide) (by decide) (by decide)
  have e' := S3_arg m X c main_arg4 (by decide) (by decide) (by decide)
  unfold S4
  generalize S3 m X c = V at e e' ⊢
  after_results_simp
  simp -implicitDefEqProofs only [StableHlo.TRef.toBuf, StableHlo.TRef.ofBuf, cast_cast, cast_eq]
  rw [e, e']
  pointwise
  rfl

/-! After the second call. -/

theorem S6_apply (i j : Fin 1024) (n : Fin 64) :
    (S6 m X c main_v1 : Vec Ideal S1x1024x1024x64 .f32) (ix4 0 i j n) = (earr (contOf (S4 m X)) c : Vec Ideal S1024x1024x64 .f32) (ix3 i j n) := by
  have e : S5 m X c main_call0_v12 = earr (contOf (S4 m X)) c := afterE_self (S4 m X) c
  unfold S6
  generalize S5 m X c = V at e ⊢
  after_results_simp
  simp -implicitDefEqProofs only [StableHlo.TRef.toBuf, StableHlo.TRef.ofBuf, cast_cast, cast_eq]
  rw [e]
  pointwise

end Cert.Proof.Emb

end
-- ==== Proof.RefNear.lean ====
/-
  The reference's neighbours: what its sort and its gather read.
-/
module

public import proofs.«01_k».proof.Proof.Gen.ReferenceIdeal.Run
public import proofs.«01_k».proof.Proof.EmbValue
public import proofs.«01_k».proof.Proof.Select

@[expose] public section

noncomputable section

namespace Cert.Proof.Ref

open Cert.ReferenceIdeal Cert.ReferenceIdeal.Value
open Idealize.ShloMosaic
open Idealize.ShloMosaic.TcCoe

/-- The positions of the greatest entries of a row, greatest first. -/
theorem topK_apply (x : FVec Ideal S1x1024x1024 .f32) (i : Fin 1024) (k : Fin 4) :
    (Host.topK S1x1024x4 2 (FloatOps.cmpfTotal .gt) x Gen.sliceFits_S1x1024x1024_S1x1024x4).2 (ix3 0 i k)
      = BitVec.ofNat 32 (sortedFrom (fun a b : Fin 1024 => FloatOps.cmpfTotal (F := Ideal) .gt (x (ix3 0 i a)) (x (ix3 0 i b)) == 1#1)
          (Fin.castLE (by decide) k)).val := by
  have hal : ∀ a : Fin 1024, Shape.Idx.along (s := S1x1024x1024) (d := 2) (ix3 0 i (Fin.castLE (by decide) k)) a = ix3 0 i a := by
    intro a; funext b
    unfold Shape.Idx.along
    fin_cases b <;> rfl
  unfold Host.topK
  pointwise
  unfold Host.sort2
  rw [dif_pos (show 2 < S1x1024x1024.rank by decide)]
  have key : ∀ g : Fin 1024 → S1x1024x1024.Idx, g = (fun a => ix3 0 i a) →
      BitVec.ofNat 32 ((g (sortedFrom (fun a b : Fin 1024 => FloatOps.cmpfTotal (F := Ideal) CmpDirection.gt (x (g a)) (x (g b)) == 1#1)
        (Fin.castLE (by decide) k))) 2).val
      = BitVec.ofNat 32 (sortedFrom (fun a b : Fin 1024 => FloatOps.cmpfTotal (F := Ideal) .gt (x (ix3 0 i a)) (x (ix3 0 i b)) == 1#1)
          (Fin.castLE (by decide) k)).val := by
    intro g hg
    subst hg
    generalize sortedFrom _ _ = s
    rfl
  exact key (fun a : Fin 1024 => Shape.Idx.along (s := S1x1024x1024) (d := 2) (ix3 0 i (Fin.castLE (by decide) k)) a) (funext hal)

/-- The rows that a gather reads. -/
theorem gather_apply (x : FVec Ideal S1024x3 .f32) (idx : IVec S1024x3x1 32) (i : Fin 1024) (k y : Fin 3) :
    Host.gather gather_S1024x3_S1024x3x1_S1024x3x3_2_0_n_n_0_2_13 x idx (ix3 i k y)
      = x (ix2 ⟨min (idx (ix3 i k 0)).toInt.toNat 1023, by omega⟩ y) := by
  unfold Host.gather
  congr 1
  funext a
  refine Fin.ext ?_
  show GatherDims.start _ (ix3 i k y) idx a + GatherDims.batchCoord _ (ix3 i k y) a + GatherDims.offCoord _ (ix3 i k y) a = _
  fin_cases a
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S1024x3_S1024x3x1_S1024x3x3_2_0_n_n_0_2_13.startIndexMap from List.mem_singleton.mpr rfl)]
    show min (idx _).toInt.toNat 1023 = min (idx _).toInt.toNat 1023
    congr 4
    funext b
    fin_cases b <;> rfl
  · rw [GatherDims.batchCoord_eq_zero _ _ _ List.not_mem_nil]
    have h0 : GatherDims.start gather_S1024x3_S1024x3x1_S1024x3x3_2_0_n_n_0_2_13 (ix3 i k y) idx 1 = 0 := by
      unfold GatherDims.start
      exact dif_neg (by decide)
    rw [show ((fun i => i) ⟨1, by decide⟩ : Fin S1024x3.rank) = 1 from rfl, h0]
    show 0 + 0 + GatherDims.offCoord gather_S1024x3_S1024x3x1_S1024x3x3_2_0_n_n_0_2_13 (ix3 i k y) 1 = y.val
    rw [Nat.add_zero, Nat.zero_add]
    unfold GatherDims.offCoord
    rw [dif_pos (by decide)]
    rfl
end Cert.Proof.Ref

end
-- ==== Proof.RefValue.lean ====
/-
  The reference's result at an entry, over the extended reals.
-/
module

public import proofs.«01_k».proof.Proof.Gen.ReferenceIdeal.Run
public import proofs.«01_k».proof.Proof.RefNear

@[expose] public section

noncomputable section

namespace Cert.Proof.Ref

open Cert.ReferenceIdeal Cert.ReferenceIdeal.Value
open Idealize.ShloMosaic
open Idealize.ShloMosaic.TcCoe
open Cert.Proof.Emb (cw distK sinArg cosArg angK turn)

variable (V0 : Valuation τ sig (Elt Ideal))

/-- Point `i`. -/
def pt (i : Fin 1024) : Fin 3 → EReal := fun x => (V0 (Proc.devRef .tc main_arg0) : Vec Ideal S1x1024x3 .f32) (ix3 0 i x)

/-- The distances from point `i`. -/
def row (i : Fin 1024) : Fin 1024 → EReal := fun j => distK (pt V0 i) (pt V0 j)

/-- A row's positions by value, equal values by position: the one at place `k + 1`. -/
def near (d : Fin 1024 → EReal) (k : Fin 3) : Fin 1024 := sortedFrom (fun a b => decide (d a < d b)) ⟨k.val + 1, by omega⟩

/-- The difference of points `j` and `i`. -/
def vec (i j : Fin 1024) : Fin 3 → EReal := fun x => pt V0 j x - pt V0 i x

theorem v16_apply (i j : Fin 1024) : (res_main_v16 V0 : Vec Ideal S1x1024x1024 .f32) (ix3 0 i j) = row V0 i j := by
  pointwise [res_main_v16]
  unfold row distK pt
  simp only [Fin.sum_univ_three]

theorem v36_apply (i j : Fin 1024) (k x : Fin 3) : (res_main_v36 V0 : Vec Ideal S1x1024x1024x3x3 .f32) (ix5 0 i j k x) = vec V0 i j x := by
  pointwise [res_main_v36]
  rfl

theorem order_eq (i : Fin 1024) :
    (fun a b : Fin 1024 => FloatOps.cmpfTotal (F := Ideal) (φ := .f32) CmpDirection.gt ((res_main_v19 V0 : Vec Ideal S1x1024x1024 .f32) (ix3 0 i a))
      ((res_main_v19 V0 : Vec Ideal S1x1024x1024 .f32) (ix3 0 i b)) == 1#1) = fun a b => decide (row V0 i a < row V0 i b) := by
  funext a b
  pointwise [res_main_v19]
  rw [v16_apply, v16_apply]
  show (BitVec.ofBool (decide (-row V0 i b < -row V0 i a)) == 1#1) = _
  have e : (-row V0 i b < -row V0 i a) ↔ row V0 i a < row V0 i b := EReal.neg_lt_neg_iff
  by_cases h : row V0 i a < row V0 i b
  · rw [decide_eq_true h, decide_eq_true (e.2 h)]; rfl
  · rw [decide_eq_false h, decide_eq_false (fun c => h (e.1 c))]; rfl

theorem v34_apply (i j : Fin 1024) (k x : Fin 3) :
    (res_main_v34 V0 : Vec Ideal S1x1024x1024x3x3 .f32) (ix5 0 i j k x) = vec V0 i (near (row V0 i) k) x := by
  have hT := fun k : Fin 4 => topK_apply (res_main_v19 V0) i k
  unfold res_main_v34
  generalize (Host.topK S1x1024x4 2 (FloatOps.cmpfTotal .gt) (res_main_v19 V0) Gen.sliceFits_S1x1024x1024_S1x1024x4).2 = T at hT ⊢
  pointwise
  rw [gather_apply]
  pointwise
  have hn : T (ix3 0 i ⟨1 + k.val, by omega⟩) = BitVec.ofNat 32 (near (row V0 i) k).val := by
    rw [hT, order_eq]
    unfold near
    rw [show (Fin.castLE (by decide) (⟨1 + k.val, by omega⟩ : Fin 4) : Fin 1024) = ⟨k.val + 1, by omega⟩ from Fin.ext (Nat.add_comm _ _)]
  have hm : (⟨min (T (ix3 0 i ⟨1 + k.val, by omega⟩)).toInt.toNat 1023, by omega⟩ : Fin 1024) = near (row V0 i) k := by
    refine Fin.ext ?_
    show min (T (ix3 0 i ⟨1 + k.val, by omega⟩)).toInt.toNat 1023 = _
    rw [hn]
    generalize near (row V0 i) k = p
    have hp := p.isLt
    have e : (BitVec.ofNat 32 p.val).toNat = p.val := by rw [BitVec.toNat_ofNat]; omega
    rw [BitVec.toInt_eq_toNat_of_lt (by omega), e, Int.toNat_natCast]
    omega
  rw [hm]
  rfl

theorem v61_zero (i j : Fin 1024) (k : Fin 3) : (res_main_v61 V0 : Vec Ideal S1x1024x1024x3x3 .f32) (ix5 0 i j k 0)
    = vec V0 i (near (row V0 i) k) 1 * vec V0 i j 2 - vec V0 i (near (row V0 i) k) 2 * vec V0 i j 1 := by
  pointwise [res_main_v61, res_main_v38, res_main_v40, res_main_v42, res_main_v44, res_main_v46, res_main_v48]
  simp [v34_apply, v36_apply]
theorem v61_one (i j : Fin 1024) (k : Fin 3) : (res_main_v61 V0 : Vec Ideal S1x1024x1024x3x3 .f32) (ix5 0 i j k 1)
    = vec V0 i (near (row V0 i) k) 2 * vec V0 i j 0 - vec V0 i (near (row V0 i) k) 0 * vec V0 i j 2 := by
  pointwise [res_main_v61, res_main_v38, res_main_v40, res_main_v42, res_main_v44, res_main_v46, res_main_v48]
  simp [v34_apply, v36_apply]
theorem v61_two (i j : Fin 1024) (k : Fin 3) : (res_main_v61 V0 : Vec Ideal S1x1024x1024x3x3 .f32) (ix5 0 i j k 2)
    = vec V0 i (near (row V0 i) k) 0 * vec V0 i j 1 - vec V0 i (near (row V0 i) k) 1 * vec V0 i j 0 := by
  pointwise [res_main_v61, res_main_v38, res_main_v40, res_main_v42, res_main_v44, res_main_v46, res_main_v48]
  simp [v34_apply, v36_apply]

/-- The frequencies. -/
def freq (n : Fin 32) : EReal := (res_main_cst V0 : Vec Ideal S32 .f32) (ix1 n)

theorem v154_apply (i j : Fin 1024) (k : Fin 3) (n : Fin 32) : (res_main_v154 V0 : Vec Ideal S1x1024x1024x3x32 .f32) (ix5 0 i j k n)
    = angK (vec V0 i (near (row V0 i) k)) (vec V0 i j) * freq V0 n * cw 1042479491#32 := by
  pointwise [res_main_v154]
  simp only [Fin.sum_univ_three, v61_zero, v61_one, v61_two, v34_apply, v36_apply]
  rfl

theorem v158_apply (i j : Fin 1024) (k : Fin 3) (n : Fin 32) : (res_main_v158 V0 : Vec Ideal S1x1024x1024x3x32 .f32) (ix5 0 i j k n)
    = turn (angK (vec V0 i (near (row V0 i) k)) (vec V0 i j) * freq V0 n) := by
  pointwise [res_main_v158]
  rw [v154_apply]
  rfl

theorem v76_apply (i j : Fin 1024) (n : Fin 32) : (res_main_v76 V0 : Vec Ideal S1x1024x1024x32 .f32) (ix4 0 i j n)
    = Ideal.div (row V0 i j) (cw 0x3E4CCCCD#32) * freq V0 n * cw 1042479491#32 := by
  pointwise [res_main_v76]
  rw [v16_apply]
  rfl

theorem v80_apply (i j : Fin 1024) (n : Fin 32) : (res_main_v80 V0 : Vec Ideal S1x1024x1024x32 .f32) (ix4 0 i j n)
    = turn (Ideal.div (row V0 i j) (cw 0x3E4CCCCD#32) * freq V0 n) := by
  pointwise [res_main_v80]
  rw [v76_apply]
  rfl

/-- The fitted sine, by powers. -/
def sinP (r : EReal) : EReal :=
  cw 0x40C90EC7#32 * r + cw 0xC2255311#32 * ((r * r) * r) + cw 0x42A2BB1F#32 * (r * ((r * r) * (r * r)))
    + cw 0xC294F10B#32 * ((r * (r * r)) * ((r * r) * (r * r))) + cw 0x420312F9#32 * (r * (((r * r) * (r * r)) * ((r * r) * (r * r))))
/-- The fitted cosine, by powers. -/
def cosP (r : EReal) : EReal :=
  cw 0x3F7FFFF3#32 + cw 0xC19DE96F#32 * (r * r) + cw 0x4281DB79#32 * ((r * r) * (r * r)) + cw 0xC2AA8B0F#32 * ((r * r) * ((r * r) * (r * r)))
    + cw 0x426B2959#32 * (((r * r) * (r * r)) * ((r * r) * (r * r))) + cw 0xC1A89137#32 * ((r * r) * (((r * r) * (r * r)) * ((r * r) * (r * r))))

/-- The embedding of `f`, projected. -/
def embP (f : EReal) (d : Fin 32 → EReal) (w : Fin 64 → EReal) : EReal :=
  (∑ k : Fin 32, sinP (turn (f * d k)) * w ⟨k.val, by omega⟩) + ∑ k : Fin 32, cosP (turn (f * d k)) * w ⟨32 + k.val, by omega⟩

theorem v227_apply (i j : Fin 1024) (n : Fin 64) : (res_main_v227 V0 : Vec Ideal S1x1024x1024x64 .f32) (ix4 0 i j n)
    = embP (Ideal.div (row V0 i j) (cw 0x3E4CCCCD#32)) (freq V0) (fun k => (V0 (Proc.devRef .tc main_arg1) : Vec Ideal S64x64 .f32) (ix2 k n))
        + (V0 (Proc.devRef .tc main_arg2) : Vec Ideal S64 .f32) (ix1 n)
      + Finset.univ.fold max (cw 4286578688#32) fun k : Fin 3 =>
          embP (angK (vec V0 i (near (row V0 i) k)) (vec V0 i j)) (freq V0) (fun k => (V0 (Proc.devRef .tc main_arg3) : Vec Ideal S64x64 .f32) (ix2 k n))
            + (V0 (Proc.devRef .tc main_arg4) : Vec Ideal S64 .f32) (ix1 n) := by
  pointwise [res_main_v227, res_main_v90, res_main_v96, res_main_v103, res_main_v104, res_main_v119, res_main_v124, res_main_v130, res_main_v131,
    res_main_v136, res_main_v137, res_main_v168, res_main_v174, res_main_v181, res_main_v182, res_main_v197, res_main_v202, res_main_v208, res_main_v209, res_main_v214, res_main_v215]
  simp only [v158_apply, v80_apply]
  rfl

end Cert.Proof.Ref

end
-- ==== Proof.EmbReal.lean ====
/-
  Real points. On points that are real and not too far, every distance is real and below the mask, every angle is real, and the nested
  polynomials are the sums of powers.
-/
module

public import proofs.«01_k».proof.Proof.RefValue
public import proofs.«01_k».proof.Proof.KnnValue

@[expose] public section

noncomputable section

namespace Cert.Proof.Emb

open Idealize.ShloMosaic

/-- A real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩

/-- A word whose exponent is not all ones is a real number. -/
theorem cw_real (b : BitVec 32) (h : (b.extractLsb' 23 8).toNat ≠ 255) : IsR (cw b) := by
  show IsR (Ideal.ieee 8 23 b)
  unfold Ideal.ieee
  dsimp only
  rw [if_neg (by simpa using h)]
  split
  · exact ⟨_, rfl⟩
  · exact ⟨_, rfl⟩

theorem cw_two : cw 1073741824#32 = ((2 : ℝ) : EReal) := by
  simp [Ideal.ofBits, Ideal.ieee]
  rw [← EReal.coe_mul]
  norm_num

/-- The mask's value. -/
theorem mask_val : ∃ M : ℝ, maskV = (M : EReal) ∧ (2.9e38 : ℝ) < M := by
  refine ⟨(2 ^ 23 + 0x61B1E6 : ℝ) * 2 ^ (104 : ℤ), ?_, ?_⟩
  · unfold maskV
    simp [Ideal.ofBits, Ideal.ieee]
    norm_num
    norm_cast
  · norm_num

/-- The bound's value. -/
theorem bound_val : ∃ B : ℝ, cw 0x7CF0BDC2#32 = (B : EReal) ∧ B < (1.1e37 : ℝ) := by
  refine ⟨(2 ^ 23 + 0x70BDC2 : ℝ) * 2 ^ (99 : ℤ), ?_, ?_⟩
  · simp [Ideal.ofBits, Ideal.ieee]
    norm_num
    norm_cast
  · norm_num

/-- The square of the distance, over the reals. -/
def sq (R P : Fin 3 → ℝ) : ℝ := (R 0 - P 0) ^ 2 + (R 1 - P 1) ^ 2 + (R 2 - P 2) ^ 2

theorem distK_real (R P : Fin 3 → ℝ) : distK (fun x => (R x : EReal)) (fun x => (P x : EReal)) = (Real.sqrt (sq R P) : EReal) := by
  have h0 : 0 ≤ sq R P := by unfold sq; positivity
  unfold distK
  rw [Fin.sum_univ_three, cw_two]
  simp only [← EReal.coe_mul, ← EReal.coe_add, ← EReal.coe_sub]
  rw [show R 0 * R 0 + R 1 * R 1 + R 2 * R 2 - 2 * (R 0 * P 0 + R 1 * P 1 + R 2 * P 2) + (P 0 * P 0 + P 1 * P 1 + P 2 * P 2) = sq R P from by unfold sq; ring]
  rw [max_eq_left (by exact_mod_cast h0)]
  show (if sq R P < 0 then ⊥ else (Real.sqrt (sq R P) : EReal)) = _
  rw [if_neg (not_lt.2 h0)]

/-- A point that the bound admits. -/
def Near (p : Fin 3 → EReal) : Prop := ∃ R : Fin 3 → ℝ, (p = fun x => (R x : EReal)) ∧ ∀ x, |R x| < 1.1e37

theorem dist_lt (p q : Fin 3 → EReal) (hp : Near p) (hq : Near q) : distK p q < maskV := by
  obtain ⟨R, rfl, hR⟩ := hp
  obtain ⟨P, rfl, hP⟩ := hq
  obtain ⟨M, hM, hb⟩ := mask_val
  rw [distK_real, hM]
  refine EReal.coe_lt_coe_iff.2 ((Real.sqrt_lt' (by linarith)).2 ?_)
  have hd : ∀ x, (R x - P x) ^ 2 ≤ (2.2e37 : ℝ) ^ 2 := fun x => by
    refine sq_le_sq' ?_ ?_
    · have := abs_lt.1 (hR x); have := abs_lt.1 (hP x); linarith
    · have := abs_lt.1 (hR x); have := abs_lt.1 (hP x); linarith
  have h2 : (2.9e38 : ℝ) ^ 2 ≤ M ^ 2 := by
    refine pow_le_pow_left₀ (by norm_num) hb.le 2
  unfold sq
  have := hd 0; have := hd 1; have := hd 2
  norm_num at *
  linarith

theorem dist_isR (p q : Fin 3 → EReal) (hp : Near p) (hq : Near q) : IsR (distK p q) := by
  obtain ⟨R, rfl, -⟩ := hp
  obtain ⟨P, rfl, -⟩ := hq
  exact ⟨_, distK_real R P⟩

theorem Near.isR {p : Fin 3 → EReal} (h : Near p) (x : Fin 3) : IsR (p x) := by
  obtain ⟨R, rfl, -⟩ := h
  exact ⟨R x, rfl⟩

/-- The angle of two real vectors. -/
theorem ang_isR (e a : Fin 3 → EReal) (he : ∀ x, IsR (e x)) (ha : ∀ x, IsR (a x)) : IsR (angK e a) := by
  choose E hE using he
  choose A hA using ha
  obtain rfl : e = fun x => (E x : EReal) := funext hE
  obtain rfl : a = fun x => (A x : EReal) := funext hA
  unfold angK sinArg cosArg
  simp only [← EReal.coe_mul, ← EReal.coe_add, ← EReal.coe_sub]
  rw [Ideal.sqrt_coe, if_neg (not_lt.2 (add_nonneg (add_nonneg (mul_self_nonneg _) (mul_self_nonneg _)) (mul_self_nonneg _)))]
  exact IsR.mul ⟨_, rfl⟩ (cw_real _ (by decide))

/-- The distance in the embedding's unit. -/
theorem unit_isR (x : EReal) (h : IsR x) : IsR (Ideal.div x (cw 0x3E4CCCCD#32)) := by
  obtain ⟨y, hy⟩ := cw_real 0x3E4CCCCD#32 (by decide)
  have h0 : y ≠ 0 := by
    rintro rfl
    have : cw 0x3E4CCCCD#32 ≠ 0 := by
      simp [Ideal.ofBits, Ideal.ieee]
    exact this hy
  rw [hy, Ideal.div_coe h0]
  exact h.mul ⟨_, rfl⟩

theorem turn_isR (x : EReal) (h : IsR x) : IsR (turn x) := by
  have hc := h.mul (cw_real 1042479491#32 (by decide))
  unfold turn
  refine hc.sub ?_
  obtain ⟨r, hr⟩ := hc.add (cw_real 1056964608#32 (by decide))
  rw [hr]
  exact ⟨_, rfl⟩

theorem sin_eq (r : EReal) (h : IsR r) : sinH r = Ref.sinP r := by
  obtain ⟨s, rfl⟩ := h
  obtain ⟨c1, h1⟩ := cw_real 0x40C90EC7#32 (by decide)
  obtain ⟨c3, h3⟩ := cw_real 0xC2255311#32 (by decide)
  obtain ⟨c5, h5⟩ := cw_real 0x42A2BB1F#32 (by decide)
  obtain ⟨c7, h7⟩ := cw_real 0xC294F10B#32 (by decide)
  obtain ⟨c9, h9⟩ := cw_real 0x420312F9#32 (by decide)
  unfold sinH Ref.sinP
  rw [h1, h3, h5, h7, h9]
  simp only [← EReal.coe_mul, ← EReal.coe_add]
  exact congrArg _ (by ring)

theorem cos_eq (r : EReal) (h : IsR r) : cosH r = Ref.cosP r := by
  obtain ⟨s, rfl⟩ := h
  obtain ⟨c0, h0⟩ := cw_real 0x3F7FFFF3#32 (by decide)
  obtain ⟨c2, h2⟩ := cw_real 0xC19DE96F#32 (by decide)
  obtain ⟨c4, h4⟩ := cw_real 0x4281DB79#32 (by decide)
  obtain ⟨c6, h6⟩ := cw_real 0xC2AA8B0F#32 (by decide)
  obtain ⟨c8, h8⟩ := cw_real 0x426B2959#32 (by decide)
  obtain ⟨c10, h10⟩ := cw_real 0xC1A89137#32 (by decide)
  unfold cosH Ref.cosP
  rw [h0, h2, h4, h6, h8, h10]
  simp only [← EReal.coe_mul, ← EReal.coe_add]
  exact congrArg _ (by ring)

/-- The two projected embeddings agree on a real number at real frequencies, whatever the weights. -/
theorem emb_eq (f : EReal) (d : Fin 32 → EReal) (w : Fin 64 → EReal) (hf : IsR f) (hd : ∀ k, IsR (d k)) :
    embK f d (fun k => w ⟨k.val, by omega⟩) (fun k => w ⟨32 + k.val, by omega⟩) = Ref.embP f d w := by
  unfold embK Ref.embP
  refine congrArg₂ _ (Finset.sum_congr rfl fun k _ => ?_) (Finset.sum_congr rfl fun k _ => ?_)
  · rw [sin_eq _ (turn_isR _ (hf.mul (hd k)))]
  · rw [cos_eq _ (turn_isR _ (hf.mul (hd k)))]

end Cert.Proof.Emb

end
-- ==== Proof.KernelValue.lean ====
/-
  The kernel's result at an entry, from the arguments: on points that the bound admits, the rows' three rounds are the places 1, 2 and 3 of
  the sort, so the first call's vectors lead to the nearest neighbours, and the nested polynomials are the sums of powers.
-/
module

public import proofs.«01_k».proof.Proof.HostValue
public import proofs.«01_k».proof.Proof.EmbReal

@[expose] public section

noncomputable section

namespace Cert.Proof.Emb

open Cert.KernelIdeal Cert.KernelIdeal.Gen
open Idealize.ShloMosaic
open Idealize.ShloMosaic.TcCoe
open Cert.Proof.Ref (near embP)

variable (m : (ℓ : Loc nD τ sig) → Buf (Elt Ideal) ℓ) (X : Blocks Ideal) (c : Dev nD)

/-- The distances from point `i`. -/
def rowA (i : Fin 1024) : Fin 1024 → EReal := fun j => distK (aP m c i) (aP m c j)

/-- The difference of points `j` and `i`. -/
def vecA (i j : Fin 1024) : Fin 3 → EReal := fun x => aP m c j x - aP m c i x

theorem row_eq (i : Fin 1024) : rowW (V2 m c main_call0_v0) (V2 m c main_v0) i = rowA m c i := by
  funext l
  unfold rowW rowA
  refine congrArg₂ distK (funext fun x => ?_) (funext fun x => ?_)
  · exact V2_points m c i x
  · exact V2_trans m c x l

section
variable (hX : okBlocks m X c) (hN : ∀ i, Near (aP m c i))
include hX hN

theorem vec_entry (i : Fin 1024) (k x : Fin 3) (e : Fin 16) (he : e.val = 3 * k.val + x.val) :
    (S4 m X c main_call0_v1 : Vec Ideal S1024x16 .f32) (ix2 i e) = vecA m c i (near (rowA m c i) k) x := by
  have hn := karr_nine (contOf (V2 m)) c X hX i e
  have hv : ∀ p : Fin 1024, @HSub.hSub EReal EReal EReal _ ((V2 m c main_call0_v0 : Vec Ideal S3x1024 .f32) (ix2 x p))
      ((V2 m c main_v0 : Vec Ideal S1024x3 .f32) (ix2 i x)) = vecA m c i p x := fun p =>
    congrArg₂ (fun a b : EReal => a - b) (V2_trans m c x p) (V2_points m c i x)
  obtain ⟨r1, r2, r3⟩ := rounds_eq_sort (rowA m c i) maskV (fun j => dist_lt _ _ (hN i) (hN j)) (fun a b => decide (rowA m c i a < rowA m c i b))
    (fun a b => decide_eq_true_iff)
  rw [← row_eq] at r1 r2 r3
  rw [S4_vecs]
  refine Eq.trans ?_ (hv _)
  have hk := k.isLt
  obtain h | h | h : k.val = 0 ∨ k.val = 1 ∨ k.val = 2 := by omega
  · obtain rfl : k = 0 := Fin.ext h
    exact hn.one _ x (r1.trans (by rw [row_eq]; rfl)) (by rw [he]; simp)
  · obtain rfl : k = 1 := Fin.ext h
    exact hn.two _ x (r2.trans (by rw [row_eq]; rfl)) (by rw [he]; simp)
  · obtain rfl : k = 2 := Fin.ext h
    exact hn.three _ x (r3.trans (by rw [row_eq]; rfl)) (by rw [he]; simp)

/-- The kernel's frequencies. -/
def freqA (k : Fin 32) : EReal := cw (lit0 k)

omit hX hN in
theorem freqA_isR (k : Fin 32) : IsR (freqA k) := cw_real _ (by revert k; decide)

/-- Neighbour `k`'s angle, embedded and projected. -/
def angP (i j : Fin 1024) (n : Fin 64) (k : Fin 3) : EReal :=
  embP (angK (vecA m c i (near (rowA m c i) k)) (vecA m c i j)) freqA fun y => aWa m c y n
/-- The distance, embedded and projected. -/
def dstP (i j : Fin 1024) (n : Fin 64) : EReal :=
  embP (Ideal.div (rowA m c i j) (cw 0x3E4CCCCD#32)) freqA fun y => aWd m c y n

omit hX hN in
theorem S4_dif (i j : Fin 1024) :
    (fun x => @HSub.hSub EReal EReal EReal _ ((S4 m X c main_call0_v0 : Vec Ideal S3x1024 .f32) (ix2 x j)) ((S4 m X c main_v0 : Vec Ideal S1024x3 .f32) (ix2 i x))) = vecA m c i j := by
  funext x
  rw [S4_keep m X c main_call0_v0 (by decide) (by decide), S4_keep m X c main_v0 (by decide) (by decide)]
  exact congrArg₂ (fun a b : EReal => a - b) (V2_trans m c x j) (V2_points m c i x)

omit hX hN in
theorem S4_freq (k : Fin 32) : (S4 m X c main_call0_cst : Vec Ideal S1x32 .f32) (ix2 0 k) = freqA k := by
  rw [S4_keep m X c main_call0_cst (by decide) (by decide)]
  exact V2_freq m c k

theorem ang_part (i j : Fin 1024) (n : Fin 64) (k : Fin 3) (e0 e1 e2 : Fin 16) (h0 : e0.val = 3 * k.val) (h1 : e1.val = 3 * k.val + 1) (h2 : e2.val = 3 * k.val + 2) :
    embK (angK ![(S4 m X c main_call0_v1 : Vec Ideal S1024x16 .f32) (ix2 i e0), (S4 m X c main_call0_v1 : Vec Ideal S1024x16 .f32) (ix2 i e1), (S4 m X c main_call0_v1 : Vec Ideal S1024x16 .f32) (ix2 i e2)] (vecA m c i j))
      freqA (fun k => aWa m c ⟨k.val, by omega⟩ n) (fun k => aWa m c ⟨32 + k.val, by omega⟩ n) = angP m c i j n k := by
  have hv : ![(S4 m X c main_call0_v1 : Vec Ideal S1024x16 .f32) (ix2 i e0), (S4 m X c main_call0_v1 : Vec Ideal S1024x16 .f32) (ix2 i e1), (S4 m X c main_call0_v1 : Vec Ideal S1024x16 .f32) (ix2 i e2)]
      = vecA m c i (near (rowA m c i) k) := by
    funext x
    fin_cases x
    · exact vec_entry m X c hX hN i k 0 e0 h0
    · exact vec_entry m X c hX hN i k 1 e1 h1
    · exact vec_entry m X c hX hN i k 2 e2 h2
  rw [hv]
  refine emb_eq _ freqA (fun y => aWa m c y n) (ang_isR _ _ ?_ ?_) freqA_isR
  · exact fun x => ((hN _).isR x).sub ((hN _).isR x)
  · exact fun x => ((hN _).isR x).sub ((hN _).isR x)

omit hX in
theorem dst_part (i j : Fin 1024) (n : Fin 64) :
    embK (Ideal.div (rowA m c i j) (cw 0x3E4CCCCD#32)) freqA (fun k => aWd m c ⟨k.val, by omega⟩ n) (fun k => aWd m c ⟨32 + k.val, by omega⟩ n) = dstP m c i j n :=
  emb_eq _ freqA (fun y => aWd m c y n) (unit_isR _ (dist_isR _ _ (hN i) (hN j))) freqA_isR

/-- THE KERNEL'S RESULT at an entry. -/
theorem kernel_apply (i j : Fin 1024) (n : Fin 64) :
    (S6 m X c main_v1 : Vec Ideal S1x1024x1024x64 .f32) (ix4 0 i j n)
      = max (max (angP m c i j n 0) (angP m c i j n 1)) (angP m c i j n 2) + dstP m c i j n + (aBd m c n + aBa m c n) := by
  rw [S6_apply, earr_apply]
  unfold cellE
  have hw : (fun k => (S4 m X c main_call0_v3 : Vec Ideal S32x64 .bf16) (ix2 k n)) = fun k => aWd m c ⟨k.val, by omega⟩ n := funext fun k => S4_wds m X c k n
  have hw' : (fun k => (S4 m X c main_call0_v5 : Vec Ideal S32x64 .bf16) (ix2 k n)) = fun k => aWd m c ⟨32 + k.val, by omega⟩ n := funext fun k => S4_wdc m X c k n
  have ha : (fun k => (S4 m X c main_call0_v7 : Vec Ideal S32x64 .bf16) (ix2 k n)) = fun k => aWa m c ⟨k.val, by omega⟩ n := funext fun k => S4_was m X c k n
  have ha' : (fun k => (S4 m X c main_call0_v9 : Vec Ideal S32x64 .bf16) (ix2 k n)) = fun k => aWa m c ⟨32 + k.val, by omega⟩ n := funext fun k => S4_wac m X c k n
  have hf : (fun k => (S4 m X c main_call0_cst : Vec Ideal S1x32 .f32) (ix2 0 k)) = freqA := funext fun k => S4_freq m X c k
  have hd : distK (fun x => (S4 m X c main_v0 : Vec Ideal S1024x3 .f32) (ix2 i x)) (fun x => (S4 m X c main_call0_v0 : Vec Ideal S3x1024 .f32) (ix2 x j)) = rowA m c i j := by
    rw [S4_keep m X c main_call0_v0 (by decide) (by decide), S4_keep m X c main_v0 (by decide) (by decide)]
    exact congrFun (row_eq m c i) j
  refine congrArg₂ (fun a b : EReal => a + b) (congrArg₂ (fun a b : EReal => a + b) (congrArg₂ max (congrArg₂ max ?_ ?_) ?_) ?_) (S4_bias m X c n)
  · rw [← ang_part m X c hX hN i j n 0 0 1 2 rfl rfl rfl, ← ha, ← ha', ← hf, ← S4_dif m X c i j]
  · rw [← ang_part m X c hX hN i j n 1 3 4 5 rfl rfl rfl, ← ha, ← ha', ← hf, ← S4_dif m X c i j]
  · rw [← ang_part m X c hX hN i j n 2 6 7 8 rfl rfl rfl, ← ha, ← ha', ← hf, ← S4_dif m X c i j]
  · rw [← dst_part m c hN i j n, ← hw, ← hw', ← hf, ← hd]

end

end Cert.Proof.Emb

end
-- ==== Proof.Algebraic.lean ====
/-
  The equality: on points that the bound admits, the kernel at the ideal values and the reference leave one result.
-/
module

public import proofs.«01_k».proof.Defs
public import proofs.«01_k».proof.Proof.KernelValue

@[expose] public section

noncomputable section

namespace Cert.Proof

open Idealize.ShloMosaic Idealize.SL.Sem
open Idealize.ShloMosaic.TcCoe

/-- The bound's stated fact: a scalar spreads to any shape. -/
theorem pre_facts : Cert.Pre_bounded_points.Facts := ⟨by decide⟩

attribute [local instance] Cert.KernelIdeal.Gen.facts Cert.ReferenceIdeal.Gen.facts pre_facts

/-- The two tables of frequencies are one. -/
theorem tables (k : Fin 32) : Cert.ReferenceIdeal.lit0 k = Cert.KernelIdeal.lit0 k := by
  revert k; decide

/-- The fold of three maxima from the least value. -/
theorem fold_three (f : Fin 3 → EReal) : Finset.univ.fold max (Emb.cw 4286578688#32) f = max (max (f 0) (f 1)) (f 2) := by
  have hb : Emb.cw 4286578688#32 = ⊥ := by simp [Ideal.ofBits, Ideal.ieee]
  rw [hb, show (Finset.univ : Finset (Fin 3)) = {0, 1, 2} from by decide, Finset.fold_insert (by decide), Finset.fold_insert (by decide), Finset.fold_singleton,
    max_bot_right, max_assoc]

section
variable (m : (ℓ : Loc Cert.KernelIdeal.nD Cert.KernelIdeal.τ Cert.KernelIdeal.sig) → Buf (Elt Ideal) ℓ) (c : Dev Cert.KernelIdeal.nD)

/-- What the bound says of the points. -/
theorem near_of_pre (h : Cert.Pre_KernelIdeal_bounded_points m) (i : Fin 1024) : Emb.Near (Emb.aP m c i) := by
  have hc : ∀ x : Fin 3, max (Emb.aP m c i x) (-Emb.aP m c i x) ≤ Emb.cw 0x7CF0BDC2#32 := by
    intro x
    have e := congrFun (h c) (ix3 0 i x)
    change BitVec.ofBool (decide (max (Emb.aP m c i x) (-Emb.aP m c i x) ≤ Emb.cw 0x7CF0BDC2#32)) = 1#1 at e
    by_contra hn
    rw [decide_eq_false hn] at e
    exact absurd e (by decide)
  obtain ⟨B, hB, hlt⟩ := Emb.bound_val
  rw [hB] at hc
  have hr : ∀ x : Fin 3, ∃ r : ℝ, Emb.aP m c i x = (r : EReal) ∧ |r| < 1.1e37 := by
    intro x
    have hx := hc x
    generalize Emb.aP m c i x = y at hx
    induction y using EReal.rec with
    | bot => exact absurd (le_trans (le_max_right _ _) hx) (by simp)
    | top => exact absurd (le_trans (le_max_left _ _) hx) (by simp)
    | coe r =>
      refine ⟨r, rfl, lt_of_le_of_lt ?_ hlt⟩
      rw [← EReal.coe_neg, max_le_iff, EReal.coe_le_coe_iff, EReal.coe_le_coe_iff] at hx
      exact abs_le'.2 hx
  choose R hR hb using hr
  exact ⟨R, funext hR, hb⟩

variable (m' : (ℓ : Loc Cert.ReferenceIdeal.nD Cert.ReferenceIdeal.τ Cert.ReferenceIdeal.sig) → Buf (Elt Ideal) ℓ)

/-- The arguments of the two programs agree. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- What the reference is launched with. -/
abbrev refV (c : Dev Cert.KernelIdeal.nD) : Valuation Cert.ReferenceIdeal.τ Cert.ReferenceIdeal.sig (Elt Ideal) := StableHlo.launchContents m' c

/-- The reference's frequencies are the kernel's. -/
theorem freq_eq : Ref.freq (refV m' c) = Emb.freqA := by
  funext k
  have h : ∀ k : Fin 32, (Cert.ReferenceIdeal.S32.rowMajor (ix1 k)).val = k.val := by decide +kernel
  exact congrArg Emb.cw ((congrArg Cert.ReferenceIdeal.lit0 (Fin.ext (h k))).trans (tables k))

/-- THE REFERENCE'S RESULT at an entry, from the kernel's arguments. -/
theorem ref_apply (ha : Agree m m' c) (i j : Fin 1024) (n : Fin 64) :
    (Cert.ReferenceIdeal.Value.res_main_v227 (refV m' c) : Vec Ideal Cert.ReferenceIdeal.S1x1024x1024x64 .f32) (ix4 0 i j n)
      = Emb.dstP m c i j n + Emb.aBd m c n
        + max (max (Emb.angP m c i j n 0 + Emb.aBa m c n) (Emb.angP m c i j n 1 + Emb.aBa m c n)) (Emb.angP m c i j n 2 + Emb.aBa m c n) := by
  obtain ⟨h0, h1, h2, h3, h4⟩ := ha
  have hp : ∀ i, Ref.pt (refV m' c) i = Emb.aP m c i := fun i => funext fun x => congrFun h0 (ix3 0 i x)
  have hr : ∀ i, Ref.row (refV m' c) i = Emb.rowA m c i := fun i => funext fun j => by
    unfold Ref.row Emb.rowA; rw [hp, hp]
  have hv : ∀ i j, Ref.vec (refV m' c) i j = Emb.vecA m c i j := fun i j => funext fun x => by
    unfold Ref.vec Emb.vecA; rw [hp, hp]
  rw [Ref.v227_apply, fold_three, hr, freq_eq]
  simp only [hv]
  refine congrArg₂ (fun a b : EReal => a + b) (congrArg₂ (fun a b : EReal => a + b) ?_ (congrFun h2 (ix1 n)))
    (congrArg₂ max (congrArg₂ max (congrArg₂ (fun a b : EReal => a + b) ?_ (congrFun h4 (ix1 n)))
      (congrArg₂ (fun a b : EReal => a + b) ?_ (congrFun h4 (ix1 n)))) (congrArg₂ (fun a b : EReal => a + b) ?_ (congrFun h4 (ix1 n))))
  · exact congrArg (Ref.embP _ _) (funext fun k => congrFun h1 (ix2 k n))
  · exact congrArg (Ref.embP _ _) (funext fun k => congrFun h3 (ix2 k n))
  · exact congrArg (Ref.embP _ _) (funext fun k => congrFun h3 (ix2 k n))
  · exact congrArg (Ref.embP _ _) (funext fun k => congrFun h3 (ix2 k n))

/-- The bias of the angles inside the maximum and outside, in any order of the sum. -/
theorem bias_out (a b c d u v : EReal) : max (max a b) c + d + (u + v) = d + u + max (max (a + v) (b + v)) (c + v) := by
  rw [max_add_add_right, max_add_add_right]
  abel

/-- THE TWO RESULTS ARE ONE. -/
theorem results_eq (h : Cert.Pre_KernelIdeal_bounded_points m) (ha : Agree m m' c) (X : Emb.Blocks Ideal) (hX : Emb.okBlocks m X c) :
    (Emb.S6 m X c Cert.KernelIdeal.main_v1 : Vec Ideal Cert.KernelIdeal.S1x1024x1024x64 .f32) = Cert.ReferenceIdeal.Value.res_main_v227 (refV m' c) := by
  funext y
  obtain ⟨i, j, n, rfl⟩ : ∃ (i j : Fin 1024) (n : Fin 64), y = ix4 0 i j n := ⟨y 1, y 2, y 3, by
    rw [eq_ix4 y]; congr 1; exact Subsingleton.elim (α := Fin 1) _ _⟩
  rw [Emb.kernel_apply m X c hX (near_of_pre m c h)]
  exact (bias_out _ _ _ _ _ _).trans (ref_apply m c m' ha i j n).symm
end

/-- The equality of the kernel at the ideal values and the reference. -/
theorem algebraic : Cert.algebraic_KernelIdeal_ReferenceIdeal_pre_bounded_points := fun m g m' g' hpre hagree =>
  ⟨fun c => Cert.ReferenceIdeal.Value.res_main_v227 (refV m' c),
    (θ_run Cert.KernelIdeal.defs _ _).mono (fun r h c => by
      obtain ⟨X, hX, hr⟩ := h.1 c
      refine ⟨(hr Cert.KernelIdeal.main_v1 (by decide)).trans (results_eq m c m' hpre (hagree c) X hX),
        (hr Cert.KernelIdeal.main_arg0 (by decide)).trans (Emb.S6_of m X c _ ?_ ?_ ?_ ?_ ?_ ?_), (hr Cert.KernelIdeal.main_arg1 (by decide)).trans (Emb.S6_of m X c _ ?_ ?_ ?_ ?_ ?_ ?_),
        (hr Cert.KernelIdeal.main_arg2 (by decide)).trans (Emb.S6_of m X c _ ?_ ?_ ?_ ?_ ?_ ?_), (hr Cert.KernelIdeal.main_arg3 (by decide)).trans (Emb.S6_of m X c _ ?_ ?_ ?_ ?_ ?_ ?_),
        (hr Cert.KernelIdeal.main_arg4 (by decide)).trans (Emb.S6_of m X c _ ?_ ?_ ?_ ?_ ?_ ?_)⟩ <;> decide) (Emb.run_main m g),
    Cert.ReferenceIdeal.Value.run m' g'⟩

end Cert.Proof

end
-- ==== Proof.lean ====
/-
  The certificate: the frames of the kernel as printed, of the kernel at the ideal values and of the reference, that the
  ideal program is the kernel, and that on bounded points it equals the reference (Proof/Algebraic.lean). The run is
  Proof/Run.lean, assembled from the two calls' records (Proof/KnnRegion.lean, Proof/EmbRegion.lean), those from the two
  bodies (Proof/KnnBody.lean, Proof/EmbBody.lean).
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

/-- The claims, with the programs' stated facts. -/
theorem claim : Cert.Claim := ⟨Cert.Kernel.Gen.facts, Cert.KernelIdeal.Gen.facts, Cert.ReferenceIdeal.Gen.facts, pre_facts,
  frame_kernel, frame_ideal, fun m ρ _ => frame_ideal m ρ trivial, frame_reference, fun m ρ _ => frame_reference m ρ trivial, trivial, algebraic⟩

end Cert.Proof

end
